-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_binary_and_finite [hPre_binary_and_finite : Cert.Pre_binary_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_binary_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_binary_and_finite [hPre_binary_and_finite : Cert.Pre_binary_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_binary_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_binary_and_finite [hKernelIdeal : Cert.KernelIdeal.Facts] [hPre_binary_and_finite : Cert.Pre_binary_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_binary_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_binary_and_finite [hReferenceIdeal : Cert.ReferenceIdeal.Facts] [hPre_binary_and_finite : Cert.Pre_binary_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_binary_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_binary_and_finite [hKernelIdeal : Cert.KernelIdeal.Facts] [hReferenceIdeal : Cert.ReferenceIdeal.Facts] [hPre_binary_and_finite : Cert.Pre_binary_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_binary_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_binary_and_finite : Cert.Pre_binary_and_finite.Facts),
    quiescent_Kernel (hKernel := hKernel)
    ∧ quiescent_KernelIdeal (hKernelIdeal := hKernelIdeal)
    ∧ quiescent_KernelIdeal_pre_binary_and_finite (hKernelIdeal := hKernelIdeal) (hPre_binary_and_finite := hPre_binary_and_finite)
    ∧ quiescent_ReferenceIdeal (hReferenceIdeal := hReferenceIdeal)
    ∧ quiescent_ReferenceIdeal_pre_binary_and_finite (hReferenceIdeal := hReferenceIdeal) (hPre_binary_and_finite := hPre_binary_and_finite)
    ∧ preserves_Kernel_KernelIdeal
    ∧ algebraic_KernelIdeal_ReferenceIdeal_pre_binary_and_finite (hKernelIdeal := hKernelIdeal) (hReferenceIdeal := hReferenceIdeal) (hPre_binary_and_finite := hPre_binary_and_finite)
-- ==== Pre_binary_and_finite.lean ====
abbrev S1024x50x39 : Shape := ⟨3, ![1024, 50, 39]⟩
abbrev S10x2x32 : Shape := ⟨3, ![10, 2, 32]⟩
abbrev S16x1000x32 : Shape := ⟨3, ![16, 1000, 32]⟩
abbrev S13x13 : Shape := ⟨2, ![13, 13]⟩
abbrev S13 : Shape := ⟨1, ![13]⟩
abbrev S845x32 : Shape := ⟨2, ![845, 32]⟩
abbrev S32 : Shape := ⟨1, ![32]⟩
abbrev S32x32 : Shape := ⟨2, ![32, 32]⟩
abbrev S1024x50x26 : Shape := ⟨3, ![1024, 50, 26]⟩
abbrev S_ : Shape := ⟨0, ![]⟩
abbrev S1024x50x13 : Shape := ⟨3, ![1024, 50, 13]⟩
abbrev S10x1x32 : Shape := ⟨3, ![10, 1, 32]⟩
abbrev S16x1x32 : Shape := ⟨3, ![16, 1, 32]⟩

class Facts : Prop where
  slices_S1024x50x39_S1024x50x26_0_0_0 : S1024x50x39.Slices ![0, 0, 0] S1024x50x26
  bcast_S_S1024x50x26 : S_.BroadcastsInDim S1024x50x26 (![] : Fin 0 → Fin S1024x50x26.rank)
  reducesTo_S1024x50x26_S_d0_1_2 : S1024x50x26.ReducesTo [0, 1, 2] S_
  h_S_ : 0 < S_.numel
  slices_S1024x50x39_S1024x50x13_0_0_26 : S1024x50x39.Slices ![0, 0, 26] S1024x50x13
  slices_S10x2x32_S10x1x32_0_0_0 : S10x2x32.Slices ![0, 0, 0] S10x1x32
  slices_S16x1000x32_S16x1x32_0_0_0 : S16x1000x32.Slices ![0, 0, 0] S16x1x32
  bcast_S_S1024x50x13 : S_.BroadcastsInDim S1024x50x13 (![] : Fin 0 → Fin S1024x50x13.rank)
  reducesTo_S1024x50x13_S_d0_1_2 : S1024x50x13.ReducesTo [0, 1, 2] S_
  bcast_S_S10x1x32 : S_.BroadcastsInDim S10x1x32 (![] : Fin 0 → Fin S10x1x32.rank)
  reducesTo_S10x1x32_S_d0_1_2 : S10x1x32.ReducesTo [0, 1, 2] S_
  bcast_S_S16x1x32 : S_.BroadcastsInDim S16x1x32 (![] : Fin 0 → Fin S16x1x32.rank)
  reducesTo_S16x1x32_S_d0_1_2 : S16x1x32.ReducesTo [0, 1, 2] S_
  bcast_S_S13x13 : S_.BroadcastsInDim S13x13 (![] : Fin 0 → Fin S13x13.rank)
  reducesTo_S13x13_S_d0_1 : S13x13.ReducesTo [0, 1] S_
  bcast_S_S13 : S_.BroadcastsInDim S13 (![] : Fin 0 → Fin S13.rank)
  reducesTo_S13_S_d0 : S13.ReducesTo [0] S_
  bcast_S_S845x32 : S_.BroadcastsInDim S845x32 (![] : Fin 0 → Fin S845x32.rank)
  reducesTo_S845x32_S_d0_1 : S845x32.ReducesTo [0, 1] S_

variable [Facts]

def fn_part2 {F : FTy → Type} [FloatOps F] (main_arg5 : FVec F S13x13 .f32) (main_arg7 : FVec F S845x32 .f32) (main_v34 : IVec S_ 1) : IVec S_ 1 :=
  let main_v35 : FVec F S13x13 .f32 := Host.absf main_arg5
  let main_cst_11 : FVec F S_ .f32 := constant S_ .f32 0x7F800000#32
  let main_v36 : FVec F S13x13 .f32 := broadcastInDim S13x13 ![] bcast_S_S13x13 main_cst_11
  let main_v37 : IVec S13x13 1 := cmpf .olt main_v35 main_v36
  let main_c_12 : IVec S_ 1 := constantI S_ 1 1#1
  let main_v38 : IVec S_ 1 := (fun x v => Host.reduce IntOp.andi x v reducesTo_S13x13_S_d0_1 h_S_) main_v37 main_c_12
  let main_v39 : IVec S_ 1 := andi main_v34 main_v38
  let main_v40 : FVec F S845x32 .f32 := Host.absf main_arg7
  let main_cst_13 : FVec F S_ .f32 := constant S_ .f32 0x7F800000#32
  let main_v41 : FVec F S845x32 .f32 := broadcastInDim S845x32 ![] bcast_S_S845x32 main_cst_13
  let main_v42 : IVec S845x32 1 := cmpf .olt main_v40 main_v41
  let main_c_14 : IVec S_ 1 := constantI S_ 1 1#1
  let main_v43 : IVec S_ 1 := (fun x v => Host.reduce IntOp.andi x v reducesTo_S845x32_S_d0_1 h_S_) main_v42 main_c_14
  let main_v44 : IVec S_ 1 := andi main_v39 main_v43
  main_v44

def fn_part1 {F : FTy → Type} [FloatOps F] (main_arg3 : FVec F S13x13 .f32) (main_arg4 : FVec F S13 .f32) (main_arg5 : FVec F S13x13 .f32) (main_arg7 : FVec F S845x32 .f32) (main_v9 : FVec F S16x1x32 .f32) (main_v14 : IVec S_ 1) (main_v17 : IVec S10x1x32 1) : IVec S_ 1 :=
  let main_c_4 : IVec S_ 1 := constantI S_ 1 1#1
  let main_v18 : IVec S_ 1 := (fun x v => Host.reduce IntOp.andi x v reducesTo_S10x1x32_S_d0_1_2 h_S_) main_v17 main_c_4
  let main_v19 : IVec S_ 1 := andi main_v14 main_v18
  let main_v20 : FVec F S16x1x32 .f32 := Host.absf main_v9
  let main_cst_5 : FVec F S_ .f32 := constant S_ .f32 0x7F800000#32
  let main_v21 : FVec F S16x1x32 .f32 := broadcastInDim S16x1x32 ![] bcast_S_S16x1x32 main_cst_5
  let main_v22 : IVec S16x1x32 1 := cmpf .olt main_v20 main_v21
  let main_c_6 : IVec S_ 1 := constantI S_ 1 1#1
  let main_v23 : IVec S_ 1 := (fun x v => Host.reduce IntOp.andi x v reducesTo_S16x1x32_S_d0_1_2 h_S_) main_v22 main_c_6
  let main_v24 : IVec S_ 1 := andi main_v19 main_v23
  let main_v25 : FVec F S13x13 .f32 := Host.absf main_arg3
  let main_cst_7 : FVec F S_ .f32 := constant S_ .f32 0x7F800000#32
  let main_v26 : FVec F S13x13 .f32 := broadcastInDim S13x13 ![] bcast_S_S13x13 main_cst_7
  let main_v27 : IVec S13x13 1 := cmpf .olt main_v25 main_v26
  let main_c_8 : IVec S_ 1 := constantI S_ 1 1#1
  let main_v28 : IVec S_ 1 := (fun x v => Host.reduce IntOp.andi x v reducesTo_S13x13_S_d0_1 h_S_) main_v27 main_c_8
  let main_v29 : IVec S_ 1 := andi main_v24 main_v28
  let main_v30 : FVec F S13 .f32 := Host.absf main_arg4
  let main_cst_9 : FVec F S_ .f32 := constant S_ .f32 0x7F800000#32
  let main_v31 : FVec F S13 .f32 := broadcastInDim S13 ![] bcast_S_S13 main_cst_9
  let main_v32 : IVec S13 1 := cmpf .olt main_v30 main_v31
  let main_c_10 : IVec S_ 1 := constantI S_ 1 1#1
  let main_v33 : IVec S_ 1 := (fun x v => Host.reduce IntOp.andi x v reducesTo_S13_S_d0 h_S_) main_v32 main_c_10
  let main_v34 : IVec S_ 1 := andi main_v29 main_v33
  fn_part2 (F := F) main_arg5 main_arg7 main_v34

def fn {F : FTy → Type} [FloatOps F] (main_arg0 : FVec F S1024x50x39 .f32) (main_arg1 : FVec F S10x2x32 .f32) (main_arg2 : FVec F S16x1000x32 .f32) (main_arg3 : FVec F S13x13 .f32) (main_arg4 : FVec F S13 .f32) (main_arg5 : FVec F S13x13 .f32) (main_arg6 : FVec F S13 .f32) (main_arg7 : FVec F S845x32 .f32) (main_arg8 : FVec F S32 .f32) (main_arg9 : FVec F S32x32 .f32) (main_arg10 : FVec F S32 .f32) : IVec S_ 1 :=
  let main_v0 : FVec F S1024x50x26 .f32 := (extractStridedSlice S1024x50x26 ![0, 0, 0] · slices_S1024x50x39_S1024x50x26_0_0_0) main_arg0
  let main_cst : FVec F S_ .f32 := constant S_ .f32 0x00000000#32
  let main_v1 : FVec F S1024x50x26 .f32 := broadcastInDim S1024x50x26 ![] bcast_S_S1024x50x26 main_cst
  let main_v2 : IVec S1024x50x26 1 := cmpf .oeq main_v0 main_v1
  let main_cst_0 : FVec F S_ .f32 := constant S_ .f32 0x3F800000#32
  let main_v3 : FVec F S1024x50x26 .f32 := broadcastInDim S1024x50x26 ![] bcast_S_S1024x50x26 main_cst_0
  let main_v4 : IVec S1024x50x26 1 := cmpf .oeq main_v0 main_v3
  let main_v5 : IVec S1024x50x26 1 := ori main_v2 main_v4
  let main_c : IVec S_ 1 := constantI S_ 1 1#1
  let main_v6 : IVec S_ 1 := (fun x v => Host.reduce IntOp.andi x v reducesTo_S1024x50x26_S_d0_1_2 h_S_) main_v5 main_c
  let main_v7 : FVec F S1024x50x13 .f32 := (extractStridedSlice S1024x50x13 ![0, 0, 26] · slices_S1024x50x39_S1024x50x13_0_0_26) main_arg0
  let main_v8 : FVec F S10x1x32 .f32 := (extractStridedSlice S10x1x32 ![0, 0, 0] · slices_S10x2x32_S10x1x32_0_0_0) main_arg1
  let main_v9 : FVec F S16x1x32 .f32 := (extractStridedSlice S16x1x32 ![0, 0, 0] · slices_S16x1000x32_S16x1x32_0_0_0) main_arg2
  let main_v10 : FVec F S1024x50x13 .f32 := Host.absf main_v7
  let main_cst_1 : FVec F S_ .f32 := constant S_ .f32 0x7F800000#32
  let main_v11 : FVec F S1024x50x13 .f32 := broadcastInDim S1024x50x13 ![] bcast_S_S1024x50x13 main_cst_1
  let main_v12 : IVec S1024x50x13 1 := cmpf .olt main_v10 main_v11
  let main_c_2 : IVec S_ 1 := constantI S_ 1 1#1
  let main_v13 : IVec S_ 1 := (fun x v => Host.reduce IntOp.andi x v reducesTo_S1024x50x13_S_d0_1_2 h_S_) main_v12 main_c_2
  let main_v14 : IVec S_ 1 := andi main_v6 main_v13
  let main_v15 : FVec F S10x1x32 .f32 := Host.absf main_v8
  let main_cst_3 : FVec F S_ .f32 := constant S_ .f32 0x7F800000#32
  let main_v16 : FVec F S10x1x32 .f32 := broadcastInDim S10x1x32 ![] bcast_S_S10x1x32 main_cst_3
  let main_v17 : IVec S10x1x32 1 := cmpf .olt main_v15 main_v16
  fn_part1 (F := F) main_arg3 main_arg4 main_arg5 main_arg7 main_v9 main_v14 main_v17
-- ==== Kernel.lean ====
abbrev S1024x50x39 : Shape := ⟨3, ![1024, 50, 39]⟩
abbrev S10x2x32 : Shape := ⟨3, ![10, 2, 32]⟩
abbrev S16x1000x32 : Shape := ⟨3, ![16, 1000, 32]⟩
abbrev S13x13 : Shape := ⟨2, ![13, 13]⟩
abbrev S13 : Shape := ⟨1, ![13]⟩
abbrev S845x32 : Shape := ⟨2, ![845, 32]⟩
abbrev S32 : Shape := ⟨1, ![32]⟩
abbrev S32x32 : Shape := ⟨2, ![32, 32]⟩
abbrev S16x2x32 : Shape := ⟨3, ![16, 2, 32]⟩
abbrev S1024x50x32 : Shape := ⟨3, ![1024, 50, 32]⟩
abbrev S1024x8x39 : Shape := ⟨3, ![1024, 8, 39]⟩
abbrev S1024x8x32 : Shape := ⟨3, ![1024, 8, 32]⟩
abbrev S39x45 : Shape := ⟨2, ![39, 45]⟩
abbrev S1x45 : Shape := ⟨2, ![1, 45]⟩
abbrev S45x32 : Shape := ⟨2, ![45, 32]⟩
abbrev S832x32 : Shape := ⟨2, ![832, 32]⟩
abbrev S13x32 : Shape := ⟨2, ![13, 32]⟩
abbrev S10x1x32 : Shape := ⟨3, ![10, 1, 32]⟩
abbrev S10x32 : Shape := ⟨2, ![10, 32]⟩
abbrev S16x1x32 : Shape := ⟨3, ![16, 1, 32]⟩
abbrev S16x32 : Shape := ⟨2, ![16, 32]⟩
abbrev S26x32 : Shape := ⟨2, ![26, 32]⟩
abbrev S26x832 : Shape := ⟨2, ![26, 832]⟩
abbrev S1x32 : Shape := ⟨2, ![1, 32]⟩
abbrev S1x13 : Shape := ⟨2, ![1, 13]⟩
abbrev S26x13 : Shape := ⟨2, ![26, 13]⟩
abbrev S26x45 : Shape := ⟨2, ![26, 45]⟩
abbrev S13x45 : Shape := ⟨2, ![13, 45]⟩
abbrev S8192x39 : Shape := ⟨2, ![8192, 39]⟩
abbrev S8192x45 : Shape := ⟨2, ![8192, 45]⟩
abbrev S8192x32 : Shape := ⟨2, ![8192, 32]⟩

abbrev nBuf : Space → Nat
  | .hbm => 13
  | .vmem => 17
  | .smem => 0
  | _ => 0

abbrev bufTy : (tb : Table) → Fin (tcTables nBuf tb) → BufTy
  | .hbm, ⟨0, _⟩ => ⟨S1024x50x39, .f32⟩
  | .hbm, ⟨1, _⟩ => ⟨S10x2x32, .f32⟩
  | .hbm, ⟨2, _⟩ => ⟨S16x1000x32, .f32⟩
  | .hbm, ⟨3, _⟩ => ⟨S13x13, .f32⟩
  | .hbm, ⟨4, _⟩ => ⟨S13, .f32⟩
  | .hbm, ⟨5, _⟩ => ⟨S13x13, .f32⟩
  | .hbm, ⟨6, _⟩ => ⟨S13, .f32⟩
  | .hbm, ⟨7, _⟩ => ⟨S845x32, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S16x2x32, .f32⟩
  | .hbm, ⟨12, _⟩ => ⟨S1024x50x32, .f32⟩
  | .local _ .vmem, ⟨0, _⟩ => ⟨S1024x8x39, .f32⟩
  | .local _ .vmem, ⟨1, _⟩ => ⟨S1024x8x39, .f32⟩
  | .local _ .vmem, ⟨2, _⟩ => ⟨S10x2x32, .f32⟩
  | .local _ .vmem, ⟨3, _⟩ => ⟨S16x2x32, .f32⟩
  | .local _ .vmem, ⟨4, _⟩ => ⟨S13x13, .f32⟩
  | .local _ .vmem, ⟨5, _⟩ => ⟨S13, .f32⟩
  | .local _ .vmem, ⟨6, _⟩ => ⟨S13x13, .f32⟩
  | .local _ .vmem, ⟨7, _⟩ => ⟨S13, .f32⟩
  | .local _ .vmem, ⟨8, _⟩ => ⟨S845x32, .f32⟩
  | .local _ .vmem, ⟨9, _⟩ => ⟨S32, .f32⟩
  | .local _ .vmem, ⟨10, _⟩ => ⟨S32x32, .f32⟩
  | .local _ .vmem, ⟨11, _⟩ => ⟨S32, .f32⟩
  | .local _ .vmem, ⟨12, _⟩ => ⟨S1024x8x32, .f32⟩
  | .local _ .vmem, ⟨13, _⟩ => ⟨S1024x8x32, .f32⟩
  | .local _ .vmem, ⟨14, _⟩ => ⟨S39x45, .f32⟩
  | .local _ .vmem, ⟨15, _⟩ => ⟨S1x45, .f32⟩
  | .local _ .vmem, ⟨16, _⟩ => ⟨S45x32, .f32⟩
  | _, _ => ⟨S1024x50x39, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![1, 7], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x8x39 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10x2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S13x13 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S13 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S13x13 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S13 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S845x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x8x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S1024x50x39 : Shape := ⟨3, ![1024, 50, 39]⟩
abbrev S10x2x32 : Shape := ⟨3, ![10, 2, 32]⟩
abbrev S16x1000x32 : Shape := ⟨3, ![16, 1000, 32]⟩
abbrev S13x13 : Shape := ⟨2, ![13, 13]⟩
abbrev S13 : Shape := ⟨1, ![13]⟩
abbrev S845x32 : Shape := ⟨2, ![845, 32]⟩
abbrev S32 : Shape := ⟨1, ![32]⟩
abbrev S32x32 : Shape := ⟨2, ![32, 32]⟩
abbrev S1024x50x26 : Shape := ⟨3, ![1024, 50, 26]⟩
abbrev S1024x50x13 : Shape := ⟨3, ![1024, 50, 13]⟩
abbrev S1x2x32 : Shape := ⟨3, ![1, 2, 32]⟩
abbrev S2x32 : Shape := ⟨2, ![2, 32]⟩
abbrev S1024x50x1 : Shape := ⟨3, ![1024, 50, 1]⟩
abbrev S1024x50 : Shape := ⟨2, ![1024, 50]⟩
abbrev S_ : Shape := ⟨0, ![]⟩
abbrev S1 : Shape := ⟨1, ![1]⟩
abbrev S1x1x1 : Shape := ⟨3, ![1, 1, 1]⟩
abbrev S1024x50x32 : Shape := ⟨3, ![1024, 50, 32]⟩
abbrev S1x1000x32 : Shape := ⟨3, ![1, 1000, 32]⟩
abbrev S1000x32 : Shape := ⟨2, ![1000, 32]⟩
abbrev S1024x50x512 : Shape := ⟨3, ![1024, 50, 512]⟩
abbrev S1024x50x320 : Shape := ⟨3, ![1024, 50, 320]⟩
abbrev S1024x50x832 : Shape := ⟨3, ![1024, 50, 832]⟩
abbrev S1x1x13 : Shape := ⟨3, ![1, 1, 13]⟩
abbrev S1024x50x845 : Shape := ⟨3, ![1024, 50, 845]⟩
abbrev S1x1x32 : Shape := ⟨3, ![1, 1, 32]⟩

abbrev nBuf : Space → Nat
  | .hbm => 748
  | .vmem => 0
  | .smem => 0
  | _ => 0

abbrev hbmTy0_0 (i : Nat) : BufTy := match i % 128 with
  | 0 => ⟨S1024x50x39, .f32⟩
  | 1 => ⟨S10x2x32, .f32⟩
  | 2 => ⟨S16x1000x32, .f32⟩
  | 3 => ⟨S13x13, .f32⟩
  | 4 => ⟨S13, .f32⟩
  | 5 => ⟨S13x13, .f32⟩
  | 6 => ⟨S13, .f32⟩
  | 7 => ⟨S845x32, .f32⟩
  | 8 => ⟨S32, .f32⟩
  | 9 => ⟨S32x32, .f32⟩
  | 10 => ⟨S32, .f32⟩
  | 11 => ⟨S1024x50x26, .f32⟩
  | 12 => ⟨S1024x50x26, .i32⟩
  | 13 => ⟨S1024x50x13, .f32⟩
  | 14 => ⟨S1x2x32, .f32⟩
  | 15 => ⟨S2x32, .f32⟩
  | 16 => ⟨S1024x50x1, .i32⟩
  | 17 => ⟨S1024x50, .i32⟩
  | 18 => ⟨S_, .i32⟩
  | 19 => ⟨S1024x50, .i32⟩
  | 20 => ⟨S1024x50, .i1⟩
  | 21 => ⟨S_, .i32⟩
  | 22 => ⟨S1024x50, .i32⟩
  | 23 => ⟨S1024x50, .i32⟩
  | 24 => ⟨S1024x50, .i32⟩
  | 25 => ⟨S1024x50x1, .i32⟩
  | 26 => ⟨S1, .i32⟩
  | 27 => ⟨S_, .i32⟩
  | 28 => ⟨S1024x50x1, .i32⟩
  | 29 => ⟨S1024x50x1, .i1⟩
  | 30 => ⟨S1x1x1, .i32⟩
  | 31 => ⟨S1024x50x1, .i32⟩
  | 32 => ⟨S1024x50x1, .i1⟩
  | 33 => ⟨S1024x50x1, .i1⟩
  | 34 => ⟨S_, .i1⟩
  | 35 => ⟨S1024x50, .i1⟩
  | 36 => ⟨S1024x50x32, .f32⟩
  | 37 => ⟨S1024x50x32, .i1⟩
  | 38 => ⟨S_, .f32⟩
  | 39 => ⟨S1024x50x32, .f32⟩
  | 40 => ⟨S1024x50x32, .f32⟩
  | 41 => ⟨S1x2x32, .f32⟩
  | 42 => ⟨S2x32, .f32⟩
  | 43 => ⟨S1024x50x1, .i32⟩
  | 44 => ⟨S1024x50, .i32⟩
  | 45 => ⟨S_, .i32⟩
  | 46 => ⟨S1024x50, .i32⟩
  | 47 => ⟨S1024x50, .i1⟩
  | 48 => ⟨S_, .i32⟩
  | 49 => ⟨S1024x50, .i32⟩
  | 50 => ⟨S1024x50, .i32⟩
  | 51 => ⟨S1024x50, .i32⟩
  | 52 => ⟨S1024x50x1, .i32⟩
  | 53 => ⟨S1, .i32⟩
  | 54 => ⟨S_, .i32⟩
  | 55 => ⟨S1024x50x1, .i32⟩
  | 56 => ⟨S1024x50x1, .i1⟩
  | 57 => ⟨S1x1x1, .i32⟩
  | 58 => ⟨S1024x50x1, .i32⟩
  | 59 => ⟨S1024x50x1, .i1⟩
  | 60 => ⟨S1024x50x1, .i1⟩
  | 61 => ⟨S_, .i1⟩
  | 62 => ⟨S1024x50, .i1⟩
  | 63 => ⟨S1024x50x32, .f32⟩
  | 64 => ⟨S1024x50x32, .i1⟩
  | 65 => ⟨S_, .f32⟩
  | 66 => ⟨S1024x50x32, .f32⟩
  | 67 => ⟨S1024x50x32, .f32⟩
  | 68 => ⟨S1x2x32, .f32⟩
  | 69 => ⟨S2x32, .f32⟩
  | 70 => ⟨S1024x50x1, .i32⟩
  | 71 => ⟨S1024x50, .i32⟩
  | 72 => ⟨S_, .i32⟩
  | 73 => ⟨S1024x50, .i32⟩
  | 74 => ⟨S1024x50, .i1⟩
  | 75 => ⟨S_, .i32⟩
  | 76 => ⟨S1024x50, .i32⟩
  | 77 => ⟨S1024x50, .i32⟩
  | 78 => ⟨S1024x50, .i32⟩
  | 79 => ⟨S1024x50x1, .i32⟩
  | 80 => ⟨S1, .i32⟩
  | 81 => ⟨S_, .i32⟩
  | 82 => ⟨S1024x50x1, .i32⟩
  | 83 => ⟨S1024x50x1, .i1⟩
  | 84 => ⟨S1x1x1, .i32⟩
  | 85 => ⟨S1024x50x1, .i32⟩
  | 86 => ⟨S1024x50x1, .i1⟩
  | 87 => ⟨S1024x50x1, .i1⟩
  | 88 => ⟨S_, .i1⟩
  | 89 => ⟨S1024x50, .i1⟩
  | 90 => ⟨S1024x50x32, .f32⟩
  | 91 => ⟨S1024x50x32, .i1⟩
  | 92 => ⟨S_, .f32⟩
  | 93 => ⟨S1024x50x32, .f32⟩
  | 94 => ⟨S1024x50x32, .f32⟩
  | 95 => ⟨S1x2x32, .f32⟩
  | 96 => ⟨S2x32, .f32⟩
  | 97 => ⟨S1024x50x1, .i32⟩
  | 98 => ⟨S1024x50, .i32⟩
  | 99 => ⟨S_, .i32⟩
  | 100 => ⟨S1024x50, .i32⟩
  | 101 => ⟨S1024x50, .i1⟩
  | 102 => ⟨S_, .i32⟩
  | 103 => ⟨S1024x50, .i32⟩
  | 104 => ⟨S1024x50, .i32⟩
  | 105 => ⟨S1024x50, .i32⟩
  | 106 => ⟨S1024x50x1, .i32⟩
  | 107 => ⟨S1, .i32⟩
  | 108 => ⟨S_, .i32⟩
  | 109 => ⟨S1024x50x1, .i32⟩
  | 110 => ⟨S1024x50x1, .i1⟩
  | 111 => ⟨S1x1x1, .i32⟩
  | 112 => ⟨S1024x50x1, .i32⟩
  | 113 => ⟨S1024x50x1, .i1⟩
  | 114 => ⟨S1024x50x1, .i1⟩
  | 115 => ⟨S_, .i1⟩
  | 116 => ⟨S1024x50, .i1⟩
  | 117 => ⟨S1024x50x32, .f32⟩
  | 118 => ⟨S1024x50x32, .i1⟩
  | 119 => ⟨S_, .f32⟩
  | 120 => ⟨S1024x50x32, .f32⟩
  | 121 => ⟨S1024x50x32, .f32⟩
  | 122 => ⟨S1x2x32, .f32⟩
  | 123 => ⟨S2x32, .f32⟩
  | 124 => ⟨S1024x50x1, .i32⟩
  | 125 => ⟨S1024x50, .i32⟩
  | 126 => ⟨S_, .i32⟩
  | 127 => ⟨S1024x50, .i32⟩
  | _ => ⟨S1024x50x39, .f32⟩

abbrev hbmTy0_1 (i : Nat) : BufTy := match i % 128 with
  | 0 => ⟨S1024x50, .i1⟩
  | 1 => ⟨S_, .i32⟩
  | 2 => ⟨S1024x50, .i32⟩
  | 3 => ⟨S1024x50, .i32⟩
  | 4 => ⟨S1024x50, .i32⟩
  | 5 => ⟨S1024x50x1, .i32⟩
  | 6 => ⟨S1, .i32⟩
  | 7 => ⟨S_, .i32⟩
  | 8 => ⟨S1024x50x1, .i32⟩
  | 9 => ⟨S1024x50x1, .i1⟩
  | 10 => ⟨S1x1x1, .i32⟩
  | 11 => ⟨S1024x50x1, .i32⟩
  | 12 => ⟨S1024x50x1, .i1⟩
  | 13 => ⟨S1024x50x1, .i1⟩
  | 14 => ⟨S_, .i1⟩
  | 15 => ⟨S1024x50, .i1⟩
  | 16 => ⟨S1024x50x32, .f32⟩
  | 17 => ⟨S1024x50x32, .i1⟩
  | 18 => ⟨S_, .f32⟩
  | 19 => ⟨S1024x50x32, .f32⟩
  | 20 => ⟨S1024x50x32, .f32⟩
  | 21 => ⟨S1x2x32, .f32⟩
  | 22 => ⟨S2x32, .f32⟩
  | 23 => ⟨S1024x50x1, .i32⟩
  | 24 => ⟨S1024x50, .i32⟩
  | 25 => ⟨S_, .i32⟩
  | 26 => ⟨S1024x50, .i32⟩
  | 27 => ⟨S1024x50, .i1⟩
  | 28 => ⟨S_, .i32⟩
  | 29 => ⟨S1024x50, .i32⟩
  | 30 => ⟨S1024x50, .i32⟩
  | 31 => ⟨S1024x50, .i32⟩
  | 32 => ⟨S1024x50x1, .i32⟩
  | 33 => ⟨S1, .i32⟩
  | 34 => ⟨S_, .i32⟩
  | 35 => ⟨S1024x50x1, .i32⟩
  | 36 => ⟨S1024x50x1, .i1⟩
  | 37 => ⟨S1x1x1, .i32⟩
  | 38 => ⟨S1024x50x1, .i32⟩
  | 39 => ⟨S1024x50x1, .i1⟩
  | 40 => ⟨S1024x50x1, .i1⟩
  | 41 => ⟨S_, .i1⟩
  | 42 => ⟨S1024x50, .i1⟩
  | 43 => ⟨S1024x50x32, .f32⟩
  | 44 => ⟨S1024x50x32, .i1⟩
  | 45 => ⟨S_, .f32⟩
  | 46 => ⟨S1024x50x32, .f32⟩
  | 47 => ⟨S1024x50x32, .f32⟩
  | 48 => ⟨S1x2x32, .f32⟩
  | 49 => ⟨S2x32, .f32⟩
  | 50 => ⟨S1024x50x1, .i32⟩
  | 51 => ⟨S1024x50, .i32⟩
  | 52 => ⟨S_, .i32⟩
  | 53 => ⟨S1024x50, .i32⟩
  | 54 => ⟨S1024x50, .i1⟩
  | 55 => ⟨S_, .i32⟩
  | 56 => ⟨S1024x50, .i32⟩
  | 57 => ⟨S1024x50, .i32⟩
  | 58 => ⟨S1024x50, .i32⟩
  | 59 => ⟨S1024x50x1, .i32⟩
  | 60 => ⟨S1, .i32⟩
  | 61 => ⟨S_, .i32⟩
  | 62 => ⟨S1024x50x1, .i32⟩
  | 63 => ⟨S1024x50x1, .i1⟩
  | 64 => ⟨S1x1x1, .i32⟩
  | 65 => ⟨S1024x50x1, .i32⟩
  | 66 => ⟨S1024x50x1, .i1⟩
  | 67 => ⟨S1024x50x1, .i1⟩
  | 68 => ⟨S_, .i1⟩
  | 69 => ⟨S1024x50, .i1⟩
  | 70 => ⟨S1024x50x32, .f32⟩
  | 71 => ⟨S1024x50x32, .i1⟩
  | 72 => ⟨S_, .f32⟩
  | 73 => ⟨S1024x50x32, .f32⟩
  | 74 => ⟨S1024x50x32, .f32⟩
  | 75 => ⟨S1x2x32, .f32⟩
  | 76 => ⟨S2x32, .f32⟩
  | 77 => ⟨S1024x50x1, .i32⟩
  | 78 => ⟨S1024x50, .i32⟩
  | 79 => ⟨S_, .i32⟩
  | 80 => ⟨S1024x50, .i32⟩
  | 81 => ⟨S1024x50, .i1⟩
  | 82 => ⟨S_, .i32⟩
  | 83 => ⟨S1024x50, .i32⟩
  | 84 => ⟨S1024x50, .i32⟩
  | 85 => ⟨S1024x50, .i32⟩
  | 86 => ⟨S1024x50x1, .i32⟩
  | 87 => ⟨S1, .i32⟩
  | 88 => ⟨S_, .i32⟩
  | 89 => ⟨S1024x50x1, .i32⟩
  | 90 => ⟨S1024x50x1, .i1⟩
  | 91 => ⟨S1x1x1, .i32⟩
  | 92 => ⟨S1024x50x1, .i32⟩
  | 93 => ⟨S1024x50x1, .i1⟩
  | 94 => ⟨S1024x50x1, .i1⟩
  | 95 => ⟨S_, .i1⟩
  | 96 => ⟨S1024x50, .i1⟩
  | 97 => ⟨S1024x50x32, .f32⟩
  | 98 => ⟨S1024x50x32, .i1⟩
  | 99 => ⟨S_, .f32⟩
  | 100 => ⟨S1024x50x32, .f32⟩
  | 101 => ⟨S1024x50x32, .f32⟩
  | 102 => ⟨S1x2x32, .f32⟩
  | 103 => ⟨S2x32, .f32⟩
  | 104 => ⟨S1024x50x1, .i32⟩
  | 105 => ⟨S1024x50, .i32⟩
  | 106 => ⟨S_, .i32⟩
  | 107 => ⟨S1024x50, .i32⟩
  | 108 => ⟨S1024x50, .i1⟩
  | 109 => ⟨S_, .i32⟩
  | 110 => ⟨S1024x50, .i32⟩
  | 111 => ⟨S1024x50, .i32⟩
  | 112 => ⟨S1024x50, .i32⟩
  | 113 => ⟨S1024x50x1, .i32⟩
  | 114 => ⟨S1, .i32⟩
  | 115 => ⟨S_, .i32⟩
  | 116 => ⟨S1024x50x1, .i32⟩
  | 117 => ⟨S1024x50x1, .i1⟩
  | 118 => ⟨S1x1x1, .i32⟩
  | 119 => ⟨S1024x50x1, .i32⟩
  | 120 => ⟨S1024x50x1, .i1⟩
  | 121 => ⟨S1024x50x1, .i1⟩
  | 122 => ⟨S_, .i1⟩
  | 123 => ⟨S1024x50, .i1⟩
  | 124 => ⟨S1024x50x32, .f32⟩
  | 125 => ⟨S1024x50x32, .i1⟩
  | 126 => ⟨S_, .f32⟩
  | 127 => ⟨S1024x50x32, .f32⟩
  | _ => ⟨S1024x50x39, .f32⟩

abbrev hbmTy0_2 (i : Nat) : BufTy := match i % 128 with
  | 0 => ⟨S1024x50x32, .f32⟩
  | 1 => ⟨S1x2x32, .f32⟩
  | 2 => ⟨S2x32, .f32⟩
  | 3 => ⟨S1024x50x1, .i32⟩
  | 4 => ⟨S1024x50, .i32⟩
  | 5 => ⟨S_, .i32⟩
  | 6 => ⟨S1024x50, .i32⟩
  | 7 => ⟨S1024x50, .i1⟩
  | 8 => ⟨S_, .i32⟩
  | 9 => ⟨S1024x50, .i32⟩
  | 10 => ⟨S1024x50, .i32⟩
  | 11 => ⟨S1024x50, .i32⟩
  | 12 => ⟨S1024x50x1, .i32⟩
  | 13 => ⟨S1, .i32⟩
  | 14 => ⟨S_, .i32⟩
  | 15 => ⟨S1024x50x1, .i32⟩
  | 16 => ⟨S1024x50x1, .i1⟩
  | 17 => ⟨S1x1x1, .i32⟩
  | 18 => ⟨S1024x50x1, .i32⟩
  | 19 => ⟨S1024x50x1, .i1⟩
  | 20 => ⟨S1024x50x1, .i1⟩
  | 21 => ⟨S_, .i1⟩
  | 22 => ⟨S1024x50, .i1⟩
  | 23 => ⟨S1024x50x32, .f32⟩
  | 24 => ⟨S1024x50x32, .i1⟩
  | 25 => ⟨S_, .f32⟩
  | 26 => ⟨S1024x50x32, .f32⟩
  | 27 => ⟨S1024x50x32, .f32⟩
  | 28 => ⟨S1x1000x32, .f32⟩
  | 29 => ⟨S1000x32, .f32⟩
  | 30 => ⟨S1024x50x1, .i32⟩
  | 31 => ⟨S1024x50, .i32⟩
  | 32 => ⟨S_, .i32⟩
  | 33 => ⟨S1024x50, .i32⟩
  | 34 => ⟨S1024x50, .i1⟩
  | 35 => ⟨S_, .i32⟩
  | 36 => ⟨S1024x50, .i32⟩
  | 37 => ⟨S1024x50, .i32⟩
  | 38 => ⟨S1024x50, .i32⟩
  | 39 => ⟨S1024x50x1, .i32⟩
  | 40 => ⟨S1, .i32⟩
  | 41 => ⟨S_, .i32⟩
  | 42 => ⟨S1024x50x1, .i32⟩
  | 43 => ⟨S1024x50x1, .i1⟩
  | 44 => ⟨S1x1x1, .i32⟩
  | 45 => ⟨S1024x50x1, .i32⟩
  | 46 => ⟨S1024x50x1, .i1⟩
  | 47 => ⟨S1024x50x1, .i1⟩
  | 48 => ⟨S_, .i1⟩
  | 49 => ⟨S1024x50, .i1⟩
  | 50 => ⟨S1024x50x32, .f32⟩
  | 51 => ⟨S1024x50x32, .i1⟩
  | 52 => ⟨S_, .f32⟩
  | 53 => ⟨S1024x50x32, .f32⟩
  | 54 => ⟨S1024x50x32, .f32⟩
  | 55 => ⟨S1x1000x32, .f32⟩
  | 56 => ⟨S1000x32, .f32⟩
  | 57 => ⟨S1024x50x1, .i32⟩
  | 58 => ⟨S1024x50, .i32⟩
  | 59 => ⟨S_, .i32⟩
  | 60 => ⟨S1024x50, .i32⟩
  | 61 => ⟨S1024x50, .i1⟩
  | 62 => ⟨S_, .i32⟩
  | 63 => ⟨S1024x50, .i32⟩
  | 64 => ⟨S1024x50, .i32⟩
  | 65 => ⟨S1024x50, .i32⟩
  | 66 => ⟨S1024x50x1, .i32⟩
  | 67 => ⟨S1, .i32⟩
  | 68 => ⟨S_, .i32⟩
  | 69 => ⟨S1024x50x1, .i32⟩
  | 70 => ⟨S1024x50x1, .i1⟩
  | 71 => ⟨S1x1x1, .i32⟩
  | 72 => ⟨S1024x50x1, .i32⟩
  | 73 => ⟨S1024x50x1, .i1⟩
  | 74 => ⟨S1024x50x1, .i1⟩
  | 75 => ⟨S_, .i1⟩
  | 76 => ⟨S1024x50, .i1⟩
  | 77 => ⟨S1024x50x32, .f32⟩
  | 78 => ⟨S1024x50x32, .i1⟩
  | 79 => ⟨S_, .f32⟩
  | 80 => ⟨S1024x50x32, .f32⟩
  | 81 => ⟨S1024x50x32, .f32⟩
  | 82 => ⟨S1x1000x32, .f32⟩
  | 83 => ⟨S1000x32, .f32⟩
  | 84 => ⟨S1024x50x1, .i32⟩
  | 85 => ⟨S1024x50, .i32⟩
  | 86 => ⟨S_, .i32⟩
  | 87 => ⟨S1024x50, .i32⟩
  | 88 => ⟨S1024x50, .i1⟩
  | 89 => ⟨S_, .i32⟩
  | 90 => ⟨S1024x50, .i32⟩
  | 91 => ⟨S1024x50, .i32⟩
  | 92 => ⟨S1024x50, .i32⟩
  | 93 => ⟨S1024x50x1, .i32⟩
  | 94 => ⟨S1, .i32⟩
  | 95 => ⟨S_, .i32⟩
  | 96 => ⟨S1024x50x1, .i32⟩
  | 97 => ⟨S1024x50x1, .i1⟩
  | 98 => ⟨S1x1x1, .i32⟩
  | 99 => ⟨S1024x50x1, .i32⟩
  | 100 => ⟨S1024x50x1, .i1⟩
  | 101 => ⟨S1024x50x1, .i1⟩
  | 102 => ⟨S_, .i1⟩
  | 103 => ⟨S1024x50, .i1⟩
  | 104 => ⟨S1024x50x32, .f32⟩
  | 105 => ⟨S1024x50x32, .i1⟩
  | 106 => ⟨S_, .f32⟩
  | 107 => ⟨S1024x50x32, .f32⟩
  | 108 => ⟨S1024x50x32, .f32⟩
  | 109 => ⟨S1x1000x32, .f32⟩
  | 110 => ⟨S1000x32, .f32⟩
  | 111 => ⟨S1024x50x1, .i32⟩
  | 112 => ⟨S1024x50, .i32⟩
  | 113 => ⟨S_, .i32⟩
  | 114 => ⟨S1024x50, .i32⟩
  | 115 => ⟨S1024x50, .i1⟩
  | 116 => ⟨S_, .i32⟩
  | 117 => ⟨S1024x50, .i32⟩
  | 118 => ⟨S1024x50, .i32⟩
  | 119 => ⟨S1024x50, .i32⟩
  | 120 => ⟨S1024x50x1, .i32⟩
  | 121 => ⟨S1, .i32⟩
  | 122 => ⟨S_, .i32⟩
  | 123 => ⟨S1024x50x1, .i32⟩
  | 124 => ⟨S1024x50x1, .i1⟩
  | 125 => ⟨S1x1x1, .i32⟩
  | 126 => ⟨S1024x50x1, .i32⟩
  | 127 => ⟨S1024x50x1, .i1⟩
  | _ => ⟨S1024x50x39, .f32⟩

abbrev hbmTy0_3 (i : Nat) : BufTy := match i % 128 with
  | 0 => ⟨S1024x50x1, .i1⟩
  | 1 => ⟨S_, .i1⟩
  | 2 => ⟨S1024x50, .i1⟩
  | 3 => ⟨S1024x50x32, .f32⟩
  | 4 => ⟨S1024x50x32, .i1⟩
  | 5 => ⟨S_, .f32⟩
  | 6 => ⟨S1024x50x32, .f32⟩
  | 7 => ⟨S1024x50x32, .f32⟩
  | 8 => ⟨S1x1000x32, .f32⟩
  | 9 => ⟨S1000x32, .f32⟩
  | 10 => ⟨S1024x50x1, .i32⟩
  | 11 => ⟨S1024x50, .i32⟩
  | 12 => ⟨S_, .i32⟩
  | 13 => ⟨S1024x50, .i32⟩
  | 14 => ⟨S1024x50, .i1⟩
  | 15 => ⟨S_, .i32⟩
  | 16 => ⟨S1024x50, .i32⟩
  | 17 => ⟨S1024x50, .i32⟩
  | 18 => ⟨S1024x50, .i32⟩
  | 19 => ⟨S1024x50x1, .i32⟩
  | 20 => ⟨S1, .i32⟩
  | 21 => ⟨S_, .i32⟩
  | 22 => ⟨S1024x50x1, .i32⟩
  | 23 => ⟨S1024x50x1, .i1⟩
  | 24 => ⟨S1x1x1, .i32⟩
  | 25 => ⟨S1024x50x1, .i32⟩
  | 26 => ⟨S1024x50x1, .i1⟩
  | 27 => ⟨S1024x50x1, .i1⟩
  | 28 => ⟨S_, .i1⟩
  | 29 => ⟨S1024x50, .i1⟩
  | 30 => ⟨S1024x50x32, .f32⟩
  | 31 => ⟨S1024x50x32, .i1⟩
  | 32 => ⟨S_, .f32⟩
  | 33 => ⟨S1024x50x32, .f32⟩
  | 34 => ⟨S1024x50x32, .f32⟩
  | 35 => ⟨S1x1000x32, .f32⟩
  | 36 => ⟨S1000x32, .f32⟩
  | 37 => ⟨S1024x50x1, .i32⟩
  | 38 => ⟨S1024x50, .i32⟩
  | 39 => ⟨S_, .i32⟩
  | 40 => ⟨S1024x50, .i32⟩
  | 41 => ⟨S1024x50, .i1⟩
  | 42 => ⟨S_, .i32⟩
  | 43 => ⟨S1024x50, .i32⟩
  | 44 => ⟨S1024x50, .i32⟩
  | 45 => ⟨S1024x50, .i32⟩
  | 46 => ⟨S1024x50x1, .i32⟩
  | 47 => ⟨S1, .i32⟩
  | 48 => ⟨S_, .i32⟩
  | 49 => ⟨S1024x50x1, .i32⟩
  | 50 => ⟨S1024x50x1, .i1⟩
  | 51 => ⟨S1x1x1, .i32⟩
  | 52 => ⟨S1024x50x1, .i32⟩
  | 53 => ⟨S1024x50x1, .i1⟩
  | 54 => ⟨S1024x50x1, .i1⟩
  | 55 => ⟨S_, .i1⟩
  | 56 => ⟨S1024x50, .i1⟩
  | 57 => ⟨S1024x50x32, .f32⟩
  | 58 => ⟨S1024x50x32, .i1⟩
  | 59 => ⟨S_, .f32⟩
  | 60 => ⟨S1024x50x32, .f32⟩
  | 61 => ⟨S1024x50x32, .f32⟩
  | 62 => ⟨S1x1000x32, .f32⟩
  | 63 => ⟨S1000x32, .f32⟩
  | 64 => ⟨S1024x50x1, .i32⟩
  | 65 => ⟨S1024x50, .i32⟩
  | 66 => ⟨S_, .i32⟩
  | 67 => ⟨S1024x50, .i32⟩
  | 68 => ⟨S1024x50, .i1⟩
  | 69 => ⟨S_, .i32⟩
  | 70 => ⟨S1024x50, .i32⟩
  | 71 => ⟨S1024x50, .i32⟩
  | 72 => ⟨S1024x50, .i32⟩
  | 73 => ⟨S1024x50x1, .i32⟩
  | 74 => ⟨S1, .i32⟩
  | 75 => ⟨S_, .i32⟩
  | 76 => ⟨S1024x50x1, .i32⟩
  | 77 => ⟨S1024x50x1, .i1⟩
  | 78 => ⟨S1x1x1, .i32⟩
  | 79 => ⟨S1024x50x1, .i32⟩
  | 80 => ⟨S1024x50x1, .i1⟩
  | 81 => ⟨S1024x50x1, .i1⟩
  | 82 => ⟨S_, .i1⟩
  | 83 => ⟨S1024x50, .i1⟩
  | 84 => ⟨S1024x50x32, .f32⟩
  | 85 => ⟨S1024x50x32, .i1⟩
  | 86 => ⟨S_, .f32⟩
  | 87 => ⟨S1024x50x32, .f32⟩
  | 88 => ⟨S1024x50x32, .f32⟩
  | 89 => ⟨S1x1000x32, .f32⟩
  | 90 => ⟨S1000x32, .f32⟩
  | 91 => ⟨S1024x50x1, .i32⟩
  | 92 => ⟨S1024x50, .i32⟩
  | 93 => ⟨S_, .i32⟩
  | 94 => ⟨S1024x50, .i32⟩
  | 95 => ⟨S1024x50, .i1⟩
  | 96 => ⟨S_, .i32⟩
  | 97 => ⟨S1024x50, .i32⟩
  | 98 => ⟨S1024x50, .i32⟩
  | 99 => ⟨S1024x50, .i32⟩
  | 100 => ⟨S1024x50x1, .i32⟩
  | 101 => ⟨S1, .i32⟩
  | 102 => ⟨S_, .i32⟩
  | 103 => ⟨S1024x50x1, .i32⟩
  | 104 => ⟨S1024x50x1, .i1⟩
  | 105 => ⟨S1x1x1, .i32⟩
  | 106 => ⟨S1024x50x1, .i32⟩
  | 107 => ⟨S1024x50x1, .i1⟩
  | 108 => ⟨S1024x50x1, .i1⟩
  | 109 => ⟨S_, .i1⟩
  | 110 => ⟨S1024x50, .i1⟩
  | 111 => ⟨S1024x50x32, .f32⟩
  | 112 => ⟨S1024x50x32, .i1⟩
  | 113 => ⟨S_, .f32⟩
  | 114 => ⟨S1024x50x32, .f32⟩
  | 115 => ⟨S1024x50x32, .f32⟩
  | 116 => ⟨S1x1000x32, .f32⟩
  | 117 => ⟨S1000x32, .f32⟩
  | 118 => ⟨S1024x50x1, .i32⟩
  | 119 => ⟨S1024x50, .i32⟩
  | 120 => ⟨S_, .i32⟩
  | 121 => ⟨S1024x50, .i32⟩
  | 122 => ⟨S1024x50, .i1⟩
  | 123 => ⟨S_, .i32⟩
  | 124 => ⟨S1024x50, .i32⟩
  | 125 => ⟨S1024x50, .i32⟩
  | 126 => ⟨S1024x50, .i32⟩
  | 127 => ⟨S1024x50x1, .i32⟩
  | _ => ⟨S1024x50x39, .f32⟩

abbrev hbmTy0_4 (i : Nat) : BufTy := match i % 128 with
  | 0 => ⟨S1, .i32⟩
  | 1 => ⟨S_, .i32⟩
  | 2 => ⟨S1024x50x1, .i32⟩
  | 3 => ⟨S1024x50x1, .i1⟩
  | 4 => ⟨S1x1x1, .i32⟩
  | 5 => ⟨S1024x50x1, .i32⟩
  | 6 => ⟨S1024x50x1, .i1⟩
  | 7 => ⟨S1024x50x1, .i1⟩
  | 8 => ⟨S_, .i1⟩
  | 9 => ⟨S1024x50, .i1⟩
  | 10 => ⟨S1024x50x32, .f32⟩
  | 11 => ⟨S1024x50x32, .i1⟩
  | 12 => ⟨S_, .f32⟩
  | 13 => ⟨S1024x50x32, .f32⟩
  | 14 => ⟨S1024x50x32, .f32⟩
  | 15 => ⟨S1x1000x32, .f32⟩
  | 16 => ⟨S1000x32, .f32⟩
  | 17 => ⟨S1024x50x1, .i32⟩
  | 18 => ⟨S1024x50, .i32⟩
  | 19 => ⟨S_, .i32⟩
  | 20 => ⟨S1024x50, .i32⟩
  | 21 => ⟨S1024x50, .i1⟩
  | 22 => ⟨S_, .i32⟩
  | 23 => ⟨S1024x50, .i32⟩
  | 24 => ⟨S1024x50, .i32⟩
  | 25 => ⟨S1024x50, .i32⟩
  | 26 => ⟨S1024x50x1, .i32⟩
  | 27 => ⟨S1, .i32⟩
  | 28 => ⟨S_, .i32⟩
  | 29 => ⟨S1024x50x1, .i32⟩
  | 30 => ⟨S1024x50x1, .i1⟩
  | 31 => ⟨S1x1x1, .i32⟩
  | 32 => ⟨S1024x50x1, .i32⟩
  | 33 => ⟨S1024x50x1, .i1⟩
  | 34 => ⟨S1024x50x1, .i1⟩
  | 35 => ⟨S_, .i1⟩
  | 36 => ⟨S1024x50, .i1⟩
  | 37 => ⟨S1024x50x32, .f32⟩
  | 38 => ⟨S1024x50x32, .i1⟩
  | 39 => ⟨S_, .f32⟩
  | 40 => ⟨S1024x50x32, .f32⟩
  | 41 => ⟨S1024x50x32, .f32⟩
  | 42 => ⟨S1x1000x32, .f32⟩
  | 43 => ⟨S1000x32, .f32⟩
  | 44 => ⟨S1024x50x1, .i32⟩
  | 45 => ⟨S1024x50, .i32⟩
  | 46 => ⟨S_, .i32⟩
  | 47 => ⟨S1024x50, .i32⟩
  | 48 => ⟨S1024x50, .i1⟩
  | 49 => ⟨S_, .i32⟩
  | 50 => ⟨S1024x50, .i32⟩
  | 51 => ⟨S1024x50, .i32⟩
  | 52 => ⟨S1024x50, .i32⟩
  | 53 => ⟨S1024x50x1, .i32⟩
  | 54 => ⟨S1, .i32⟩
  | 55 => ⟨S_, .i32⟩
  | 56 => ⟨S1024x50x1, .i32⟩
  | 57 => ⟨S1024x50x1, .i1⟩
  | 58 => ⟨S1x1x1, .i32⟩
  | 59 => ⟨S1024x50x1, .i32⟩
  | 60 => ⟨S1024x50x1, .i1⟩
  | 61 => ⟨S1024x50x1, .i1⟩
  | 62 => ⟨S_, .i1⟩
  | 63 => ⟨S1024x50, .i1⟩
  | 64 => ⟨S1024x50x32, .f32⟩
  | 65 => ⟨S1024x50x32, .i1⟩
  | 66 => ⟨S_, .f32⟩
  | 67 => ⟨S1024x50x32, .f32⟩
  | 68 => ⟨S1024x50x32, .f32⟩
  | 69 => ⟨S1x1000x32, .f32⟩
  | 70 => ⟨S1000x32, .f32⟩
  | 71 => ⟨S1024x50x1, .i32⟩
  | 72 => ⟨S1024x50, .i32⟩
  | 73 => ⟨S_, .i32⟩
  | 74 => ⟨S1024x50, .i32⟩
  | 75 => ⟨S1024x50, .i1⟩
  | 76 => ⟨S_, .i32⟩
  | 77 => ⟨S1024x50, .i32⟩
  | 78 => ⟨S1024x50, .i32⟩
  | 79 => ⟨S1024x50, .i32⟩
  | 80 => ⟨S1024x50x1, .i32⟩
  | 81 => ⟨S1, .i32⟩
  | 82 => ⟨S_, .i32⟩
  | 83 => ⟨S1024x50x1, .i32⟩
  | 84 => ⟨S1024x50x1, .i1⟩
  | 85 => ⟨S1x1x1, .i32⟩
  | 86 => ⟨S1024x50x1, .i32⟩
  | 87 => ⟨S1024x50x1, .i1⟩
  | 88 => ⟨S1024x50x1, .i1⟩
  | 89 => ⟨S_, .i1⟩
  | 90 => ⟨S1024x50, .i1⟩
  | 91 => ⟨S1024x50x32, .f32⟩
  | 92 => ⟨S1024x50x32, .i1⟩
  | 93 => ⟨S_, .f32⟩
  | 94 => ⟨S1024x50x32, .f32⟩
  | 95 => ⟨S1024x50x32, .f32⟩
  | 96 => ⟨S1x1000x32, .f32⟩
  | 97 => ⟨S1000x32, .f32⟩
  | 98 => ⟨S1024x50x1, .i32⟩
  | 99 => ⟨S1024x50, .i32⟩
  | 100 => ⟨S_, .i32⟩
  | 101 => ⟨S1024x50, .i32⟩
  | 102 => ⟨S1024x50, .i1⟩
  | 103 => ⟨S_, .i32⟩
  | 104 => ⟨S1024x50, .i32⟩
  | 105 => ⟨S1024x50, .i32⟩
  | 106 => ⟨S1024x50, .i32⟩
  | 107 => ⟨S1024x50x1, .i32⟩
  | 108 => ⟨S1, .i32⟩
  | 109 => ⟨S_, .i32⟩
  | 110 => ⟨S1024x50x1, .i32⟩
  | 111 => ⟨S1024x50x1, .i1⟩
  | 112 => ⟨S1x1x1, .i32⟩
  | 113 => ⟨S1024x50x1, .i32⟩
  | 114 => ⟨S1024x50x1, .i1⟩
  | 115 => ⟨S1024x50x1, .i1⟩
  | 116 => ⟨S_, .i1⟩
  | 117 => ⟨S1024x50, .i1⟩
  | 118 => ⟨S1024x50x32, .f32⟩
  | 119 => ⟨S1024x50x32, .i1⟩
  | 120 => ⟨S_, .f32⟩
  | 121 => ⟨S1024x50x32, .f32⟩
  | 122 => ⟨S1024x50x32, .f32⟩
  | 123 => ⟨S1x1000x32, .f32⟩
  | 124 => ⟨S1000x32, .f32⟩
  | 125 => ⟨S1024x50x1, .i32⟩
  | 126 => ⟨S1024x50, .i32⟩
  | 127 => ⟨S_, .i32⟩
  | _ => ⟨S1024x50x39, .f32⟩

abbrev hbmTy0_5 (i : Nat) : BufTy := match i % 128 with
  | 0 => ⟨S1024x50, .i32⟩
  | 1 => ⟨S1024x50, .i1⟩
  | 2 => ⟨S_, .i32⟩
  | 3 => ⟨S1024x50, .i32⟩
  | 4 => ⟨S1024x50, .i32⟩
  | 5 => ⟨S1024x50, .i32⟩
  | 6 => ⟨S1024x50x1, .i32⟩
  | 7 => ⟨S1, .i32⟩
  | 8 => ⟨S_, .i32⟩
  | 9 => ⟨S1024x50x1, .i32⟩
  | 10 => ⟨S1024x50x1, .i1⟩
  | 11 => ⟨S1x1x1, .i32⟩
  | 12 => ⟨S1024x50x1, .i32⟩
  | 13 => ⟨S1024x50x1, .i1⟩
  | 14 => ⟨S1024x50x1, .i1⟩
  | 15 => ⟨S_, .i1⟩
  | 16 => ⟨S1024x50, .i1⟩
  | 17 => ⟨S1024x50x32, .f32⟩
  | 18 => ⟨S1024x50x32, .i1⟩
  | 19 => ⟨S_, .f32⟩
  | 20 => ⟨S1024x50x32, .f32⟩
  | 21 => ⟨S1024x50x32, .f32⟩
  | 22 => ⟨S1x1000x32, .f32⟩
  | 23 => ⟨S1000x32, .f32⟩
  | 24 => ⟨S1024x50x1, .i32⟩
  | 25 => ⟨S1024x50, .i32⟩
  | 26 => ⟨S_, .i32⟩
  | 27 => ⟨S1024x50, .i32⟩
  | 28 => ⟨S1024x50, .i1⟩
  | 29 => ⟨S_, .i32⟩
  | 30 => ⟨S1024x50, .i32⟩
  | 31 => ⟨S1024x50, .i32⟩
  | 32 => ⟨S1024x50, .i32⟩
  | 33 => ⟨S1024x50x1, .i32⟩
  | 34 => ⟨S1, .i32⟩
  | 35 => ⟨S_, .i32⟩
  | 36 => ⟨S1024x50x1, .i32⟩
  | 37 => ⟨S1024x50x1, .i1⟩
  | 38 => ⟨S1x1x1, .i32⟩
  | 39 => ⟨S1024x50x1, .i32⟩
  | 40 => ⟨S1024x50x1, .i1⟩
  | 41 => ⟨S1024x50x1, .i1⟩
  | 42 => ⟨S_, .i1⟩
  | 43 => ⟨S1024x50, .i1⟩
  | 44 => ⟨S1024x50x32, .f32⟩
  | 45 => ⟨S1024x50x32, .i1⟩
  | 46 => ⟨S_, .f32⟩
  | 47 => ⟨S1024x50x32, .f32⟩
  | 48 => ⟨S1024x50x32, .f32⟩
  | 49 => ⟨S1x1000x32, .f32⟩
  | 50 => ⟨S1000x32, .f32⟩
  | 51 => ⟨S1024x50x1, .i32⟩
  | 52 => ⟨S1024x50, .i32⟩
  | 53 => ⟨S_, .i32⟩
  | 54 => ⟨S1024x50, .i32⟩
  | 55 => ⟨S1024x50, .i1⟩
  | 56 => ⟨S_, .i32⟩
  | 57 => ⟨S1024x50, .i32⟩
  | 58 => ⟨S1024x50, .i32⟩
  | 59 => ⟨S1024x50, .i32⟩
  | 60 => ⟨S1024x50x1, .i32⟩
  | 61 => ⟨S1, .i32⟩
  | 62 => ⟨S_, .i32⟩
  | 63 => ⟨S1024x50x1, .i32⟩
  | 64 => ⟨S1024x50x1, .i1⟩
  | 65 => ⟨S1x1x1, .i32⟩
  | 66 => ⟨S1024x50x1, .i32⟩
  | 67 => ⟨S1024x50x1, .i1⟩
  | 68 => ⟨S1024x50x1, .i1⟩
  | 69 => ⟨S_, .i1⟩
  | 70 => ⟨S1024x50, .i1⟩
  | 71 => ⟨S1024x50x32, .f32⟩
  | 72 => ⟨S1024x50x32, .i1⟩
  | 73 => ⟨S_, .f32⟩
  | 74 => ⟨S1024x50x32, .f32⟩
  | 75 => ⟨S1024x50x32, .f32⟩
  | 76 => ⟨S1024x50x512, .f32⟩
  | 77 => ⟨S1024x50x320, .f32⟩
  | 78 => ⟨S1024x50x832, .f32⟩
  | 79 => ⟨S1024x50x13, .f32⟩
  | 80 => ⟨S1x1x13, .f32⟩
  | 81 => ⟨S1024x50x13, .f32⟩
  | 82 => ⟨S1024x50x13, .f32⟩
  | 83 => ⟨S1024x50x13, .f32⟩
  | 84 => ⟨S1024x50x13, .f32⟩
  | 85 => ⟨S_, .f32⟩
  | 86 => ⟨S1024x50x13, .f32⟩
  | 87 => ⟨S1024x50x13, .f32⟩
  | 88 => ⟨S_, .f32⟩
  | 89 => ⟨S1024x50x13, .f32⟩
  | 90 => ⟨S1024x50x13, .f32⟩
  | 91 => ⟨S1024x50x13, .f32⟩
  | 92 => ⟨S1024x50x13, .f32⟩
  | 93 => ⟨S1x1x13, .f32⟩
  | 94 => ⟨S1024x50x13, .f32⟩
  | 95 => ⟨S1024x50x13, .f32⟩
  | 96 => ⟨S1024x50x845, .f32⟩
  | 97 => ⟨S1024x50x32, .f32⟩
  | 98 => ⟨S1x1x32, .f32⟩
  | 99 => ⟨S1024x50x32, .f32⟩
  | 100 => ⟨S1024x50x32, .f32⟩
  | 101 => ⟨S_, .f32⟩
  | 102 => ⟨S1024x50x32, .f32⟩
  | 103 => ⟨S1024x50x32, .f32⟩
  | 104 => ⟨S1024x50x32, .f32⟩
  | 105 => ⟨S1x1x32, .f32⟩
  | 106 => ⟨S1024x50x32, .f32⟩
  | 107 => ⟨S1024x50x32, .f32⟩
  | _ => ⟨S1024x50x39, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1024x50x39, .f32⟩

abbrev bufTy : (tb : Table) → Fin (tcTables nBuf tb) → BufTy
  | .hbm, ⟨i, _⟩ => hbmTy i
  | _, _ => ⟨S1024x50x39, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_cst : Ref sig .tc := ⟨.hbm, 92, rfl⟩
abbrev main_call2_v15 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_v14 : Ref sig .tc := ⟨.hbm, 118, rfl⟩
abbrev main_call3_cst : Ref sig .tc := ⟨.hbm, 119, rfl⟩
abbrev main_call3_v15 : Ref sig .tc := ⟨.hbm, 120, rfl⟩
abbrev main_v22 : Ref sig .tc := ⟨.hbm, 121, rfl⟩
abbrev main_v23 : Ref sig .tc := ⟨.hbm, 122, rfl⟩
abbrev main_v24 : Ref sig .tc := ⟨.hbm, 123, rfl⟩
abbrev main_v25 : Ref sig .tc := ⟨.hbm, 124, rfl⟩
abbrev main_v26 : Ref sig .tc := ⟨.hbm, 125, rfl⟩
abbrev main_call4_c : Ref sig .tc := ⟨.hbm, 126, rfl⟩
abbrev main_call4_v0 : Ref sig .tc := ⟨.hbm, 127, rfl⟩
abbrev main_call4_v1 : Ref sig .tc := ⟨.hbm, 128, rfl⟩
abbrev main_call4_c_0 : Ref sig .tc := ⟨.hbm, 129, rfl⟩
abbrev main_call4_v2 : Ref sig .tc := ⟨.hbm, 130, rfl⟩
abbrev main_call4_v3 : Ref sig .tc := ⟨.hbm, 131, rfl⟩
abbrev main_call4_v4 : Ref sig .tc := ⟨.hbm, 132, rfl⟩
abbrev main_call4_v5 : Ref sig .tc := ⟨.hbm, 133, rfl⟩
abbrev main_call4_c_1 : Ref sig .tc := ⟨.hbm, 134, rfl⟩
abbrev main_call4_c_2 : Ref sig .tc := ⟨.hbm, 135, rfl⟩
abbrev main_call4_v6 : Ref sig .tc := ⟨.hbm, 136, rfl⟩
abbrev main_call4_v7 : Ref sig .tc := ⟨.hbm, 137, rfl⟩
abbrev main_call4_v8 : Ref sig .tc := ⟨.hbm, 138, rfl⟩
abbrev main_call4_v9 : Ref sig .tc := ⟨.hbm, 139, rfl⟩
abbrev main_call4_v10 : Ref sig .tc := ⟨.hbm, 140, rfl⟩
abbrev main_call4_v11 : Ref sig .tc := ⟨.hbm, 141, rfl⟩
abbrev main_call4_c_3 : Ref sig .tc := ⟨.hbm, 142, rfl⟩
abbrev main_call4_v12 : Ref sig .tc := ⟨.hbm, 143, rfl⟩
abbrev main_call4_v13 : Ref sig .tc := ⟨.hbm, 144, rfl⟩
abbrev main_call4_v14 : Ref sig .tc := ⟨.hbm, 145, rfl⟩
abbrev main_call4_cst : Ref sig .tc := ⟨.hbm, 146, rfl⟩
abbrev main_call4_v15 : Ref sig .tc := ⟨.hbm, 147, rfl⟩
abbrev main_v27 : Ref sig .tc := ⟨.hbm, 148, rfl⟩
abbrev main_v28 : Ref sig .tc := ⟨.hbm, 149, rfl⟩
abbrev main_v29 : Ref sig .tc := ⟨.hbm, 150, rfl⟩
abbrev main_v30 : Ref sig .tc := ⟨.hbm, 151, rfl⟩
abbrev main_v31 : Ref sig .tc := ⟨.hbm, 152, rfl⟩
abbrev main_call5_c : Ref sig .tc := ⟨.hbm, 153, rfl⟩
abbrev main_call5_v0 : Ref sig .tc := ⟨.hbm, 154, rfl⟩
abbrev main_call5_v1 : Ref sig .tc := ⟨.hbm, 155, rfl⟩
abbrev main_call5_c_0 : Ref sig .tc := ⟨.hbm, 156, rfl⟩
abbrev main_call5_v2 : Ref sig .tc := ⟨.hbm, 157, rfl⟩
abbrev main_call5_v3 : Ref sig .tc := ⟨.hbm, 158, rfl⟩
abbrev main_call5_v4 : Ref sig .tc := ⟨.hbm, 159, rfl⟩
abbrev main_call5_v5 : Ref sig .tc := ⟨.hbm, 160, rfl⟩
abbrev main_call5_c_1 : Ref sig .tc := ⟨.hbm, 161, rfl⟩
abbrev main_call5_c_2 : Ref sig .tc := ⟨.hbm, 162, rfl⟩
abbrev main_call5_v6 : Ref sig .tc := ⟨.hbm, 163, rfl⟩
abbrev main_call5_v7 : Ref sig .tc := ⟨.hbm, 164, rfl⟩
abbrev main_call5_v8 : Ref sig .tc := ⟨.hbm, 165, rfl⟩
abbrev main_call5_v9 : Ref sig .tc := ⟨.hbm, 166, rfl⟩
abbrev main_call5_v10 : Ref sig .tc := ⟨.hbm, 167, rfl⟩
abbrev main_call5_v11 : Ref sig .tc := ⟨.hbm, 168, rfl⟩
abbrev main_call5_c_3 : Ref sig .tc := ⟨.hbm, 169, rfl⟩
abbrev main_call5_v12 : Ref sig .tc := ⟨.hbm, 170, rfl⟩
abbrev main_call5_v13 : Ref sig .tc := ⟨.hbm, 171, rfl⟩
abbrev main_call5_v14 : Ref sig .tc := ⟨.hbm, 172, rfl⟩
abbrev main_call5_cst : Ref sig .tc := ⟨.hbm, 173, rfl⟩
abbrev main_call5_v15 : Ref sig .tc := ⟨.hbm, 174, rfl⟩
abbrev main_v32 : Ref sig .tc := ⟨.hbm, 175, rfl⟩
abbrev main_v33 : Ref sig .tc := ⟨.hbm, 176, rfl⟩
abbrev main_v34 : Ref sig .tc := ⟨.hbm, 177, rfl⟩
abbrev main_v35 : Ref sig .tc := ⟨.hbm, 178, rfl⟩
abbrev main_v36 : Ref sig .tc := ⟨.hbm, 179, rfl⟩
abbrev main_call6_c : Ref sig .tc := ⟨.hbm, 180, rfl⟩
abbrev main_call6_v0 : Ref sig .tc := ⟨.hbm, 181, rfl⟩
abbrev main_call6_v1 : Ref sig .tc := ⟨.hbm, 182, rfl⟩
abbrev main_call6_c_0 : Ref sig .tc := ⟨.hbm, 183, rfl⟩
abbrev main_call6_v2 : Ref sig .tc := ⟨.hbm, 184, rfl⟩
abbrev main_call6_v3 : Ref sig .tc := ⟨.hbm, 185, rfl⟩
abbrev main_call6_v4 : Ref sig .tc := ⟨.hbm, 186, rfl⟩
abbrev main_call6_v5 : Ref sig .tc := ⟨.hbm, 187, rfl⟩
abbrev main_call6_c_1 : Ref sig .tc := ⟨.hbm, 188, rfl⟩
abbrev main_call6_c_2 : Ref sig .tc := ⟨.hbm, 189, rfl⟩
abbrev main_call6_v6 : Ref sig .tc := ⟨.hbm, 190, rfl⟩
abbrev main_call6_v7 : Ref sig .tc := ⟨.hbm, 191, rfl⟩
abbrev main_call6_v8 : Ref sig .tc := ⟨.hbm, 192, rfl⟩
abbrev main_call6_v9 : Ref sig .tc := ⟨.hbm, 193, rfl⟩
abbrev main_call6_v10 : Ref sig .tc := ⟨.hbm, 194, rfl⟩
abbrev main_call6_v11 : Ref sig .tc := ⟨.hbm, 195, rfl⟩
abbrev main_call6_c_3 : Ref sig .tc := ⟨.hbm, 196, rfl⟩
abbrev main_call6_v12 : Ref sig .tc := ⟨.hbm, 197, rfl⟩
abbrev main_call6_v13 : Ref sig .tc := ⟨.hbm, 198, rfl⟩
abbrev main_call6_v14 : Ref sig .tc := ⟨.hbm, 199, rfl⟩
abbrev main_call6_cst : Ref sig .tc := ⟨.hbm, 200, rfl⟩
abbrev main_call6_v15 : Ref sig .tc := ⟨.hbm, 201, rfl⟩
abbrev main_v37 : Ref sig .tc := ⟨.hbm, 202, rfl⟩
abbrev main_v38 : Ref sig .tc := ⟨.hbm, 203, rfl⟩
abbrev main_v39 : Ref sig .tc := ⟨.hbm, 204, rfl⟩
abbrev main_v40 : Ref sig .tc := ⟨.hbm, 205, rfl⟩
abbrev main_v41 : Ref sig .tc := ⟨.hbm, 206, rfl⟩
abbrev main_call7_c : Ref sig .tc := ⟨.hbm, 207, rfl⟩
abbrev main_call7_v0 : Ref sig .tc := ⟨.hbm, 208, rfl⟩
abbrev main_call7_v1 : Ref sig .tc := ⟨.hbm, 209, rfl⟩
abbrev main_call7_c_0 : Ref sig .tc := ⟨.hbm, 210, rfl⟩
abbrev main_call7_v2 : Ref sig .tc := ⟨.hbm, 211, rfl⟩
abbrev main_call7_v3 : Ref sig .tc := ⟨.hbm, 212, rfl⟩
abbrev main_call7_v4 : Ref sig .tc := ⟨.hbm, 213, rfl⟩
abbrev main_call7_v5 : Ref sig .tc := ⟨.hbm, 214, rfl⟩
abbrev main_call7_c_1 : Ref sig .tc := ⟨.hbm, 215, rfl⟩
abbrev main_call7_c_2 : Ref sig .tc := ⟨.hbm, 216, rfl⟩
abbrev main_call7_v6 : Ref sig .tc := ⟨.hbm, 217, rfl⟩
abbrev main_call7_v7 : Ref sig .tc := ⟨.hbm, 218, rfl⟩
abbrev main_call7_v8 : Ref sig .tc := ⟨.hbm, 219, rfl⟩
abbrev main_call7_v9 : Ref sig .tc := ⟨.hbm, 220, rfl⟩
abbrev main_call7_v10 : Ref sig .tc := ⟨.hbm, 221, rfl⟩
abbrev main_call7_v11 : Ref sig .tc := ⟨.hbm, 222, rfl⟩
abbrev main_call7_c_3 : Ref sig .tc := ⟨.hbm, 223, rfl⟩
abbrev main_call7_v12 : Ref sig .tc := ⟨.hbm, 224, rfl⟩
abbrev main_call7_v13 : Ref sig .tc := ⟨.hbm, 225, rfl⟩
abbrev main_call7_v14 : Ref sig .tc := ⟨.hbm, 226, rfl⟩
abbrev main_call7_cst : Ref sig .tc := ⟨.hbm, 227, rfl⟩
abbrev main_call7_v15 : Ref sig .tc := ⟨.hbm, 228, rfl⟩
abbrev main_v42 : Ref sig .tc := ⟨.hbm, 229, rfl⟩
abbrev main_v43 : Ref sig .tc := ⟨.hbm, 230, rfl⟩
abbrev main_v44 : Ref sig .tc := ⟨.hbm, 231, rfl⟩
abbrev main_v45 : Ref sig .tc := ⟨.hbm, 232, rfl⟩
abbrev main_v46 : Ref sig .tc := ⟨.hbm, 233, rfl⟩
abbrev main_call8_c : Ref sig .tc := ⟨.hbm, 234, rfl⟩
abbrev main_call8_v0 : Ref sig .tc := ⟨.hbm, 235, rfl⟩
abbrev main_call8_v1 : Ref sig .tc := ⟨.hbm, 236, rfl⟩
abbrev main_call8_c_0 : Ref sig .tc := ⟨.hbm, 237, rfl⟩
abbrev main_call8_v2 : Ref sig .tc := ⟨.hbm, 238, rfl⟩
abbrev main_call8_v3 : Ref sig .tc := ⟨.hbm, 239, rfl⟩
abbrev main_call8_v4 : Ref sig .tc := ⟨.hbm, 240, rfl⟩
abbrev main_call8_v5 : Ref sig .tc := ⟨.hbm, 241, rfl⟩
abbrev main_call8_c_1 : Ref sig .tc := ⟨.hbm, 242, rfl⟩
abbrev main_call8_c_2 : Ref sig .tc := ⟨.hbm, 243, rfl⟩
abbrev main_call8_v6 : Ref sig .tc := ⟨.hbm, 244, rfl⟩
abbrev main_call8_v7 : Ref sig .tc := ⟨.hbm, 245, rfl⟩
abbrev main_call8_v8 : Ref sig .tc := ⟨.hbm, 246, rfl⟩
abbrev main_call8_v9 : Ref sig .tc := ⟨.hbm, 247, rfl⟩
abbrev main_call8_v10 : Ref sig .tc := ⟨.hbm, 248, rfl⟩
abbrev main_call8_v11 : Ref sig .tc := ⟨.hbm, 249, rfl⟩
abbrev main_call8_c_3 : Ref sig .tc := ⟨.hbm, 250, rfl⟩
abbrev main_call8_v12 : Ref sig .tc := ⟨.hbm, 251, rfl⟩
abbrev main_call8_v13 : Ref sig .tc := ⟨.hbm, 252, rfl⟩
abbrev main_call8_v14 : Ref sig .tc := ⟨.hbm, 253, rfl⟩
abbrev main_call8_cst : Ref sig .tc := ⟨.hbm, 254, rfl⟩
abbrev main_call8_v15 : Ref sig .tc := ⟨.hbm, 255, rfl⟩
abbrev main_v47 : Ref sig .tc := ⟨.hbm, 256, rfl⟩
abbrev main_v48 : Ref sig .tc := ⟨.hbm, 257, rfl⟩
abbrev main_v49 : Ref sig .tc := ⟨.hbm, 258, rfl⟩
abbrev main_v50 : Ref sig .tc := ⟨.hbm, 259, rfl⟩
abbrev main_v51 : Ref sig .tc := ⟨.hbm, 260, rfl⟩
abbrev main_call9_c : Ref sig .tc := ⟨.hbm, 261, rfl⟩
abbrev main_call9_v0 : Ref sig .tc := ⟨.hbm, 262, rfl⟩
abbrev main_call9_v1 : Ref sig .tc := ⟨.hbm, 263, rfl⟩
abbrev main_call9_c_0 : Ref sig .tc := ⟨.hbm, 264, rfl⟩
abbrev main_call9_v2 : Ref sig .tc := ⟨.hbm, 265, rfl⟩
abbrev main_call9_v3 : Ref sig .tc := ⟨.hbm, 266, rfl⟩
abbrev main_call9_v4 : Ref sig .tc := ⟨.hbm, 267, rfl⟩
abbrev main_call9_v5 : Ref sig .tc := ⟨.hbm, 268, rfl⟩
abbrev main_call9_c_1 : Ref sig .tc := ⟨.hbm, 269, rfl⟩
abbrev main_call9_c_2 : Ref sig .tc := ⟨.hbm, 270, rfl⟩
abbrev main_call9_v6 : Ref sig .tc := ⟨.hbm, 271, rfl⟩
abbrev main_call9_v7 : Ref sig .tc := ⟨.hbm, 272, rfl⟩
abbrev main_call9_v8 : Ref sig .tc := ⟨.hbm, 273, rfl⟩
abbrev main_call9_v9 : Ref sig .tc := ⟨.hbm, 274, rfl⟩
abbrev main_call9_v10 : Ref sig .tc := ⟨.hbm, 275, rfl⟩
abbrev main_call9_v11 : Ref sig .tc := ⟨.hbm, 276, rfl⟩
abbrev main_call9_c_3 : Ref sig .tc := ⟨.hbm, 277, rfl⟩
abbrev main_call9_v12 : Ref sig .tc := ⟨.hbm, 278, rfl⟩
abbrev main_call9_v13 : Ref sig .tc := ⟨.hbm, 279, rfl⟩
abbrev main_call9_v14 : Ref sig .tc := ⟨.hbm, 280, rfl⟩
abbrev main_call9_cst : Ref sig .tc := ⟨.hbm, 281, rfl⟩
abbrev main_call9_v15 : Ref sig .tc := ⟨.hbm, 282, rfl⟩
abbrev main_v52 : Ref sig .tc := ⟨.hbm, 283, rfl⟩
abbrev main_v53 : Ref sig .tc := ⟨.hbm, 284, rfl⟩
abbrev main_v54 : Ref sig .tc := ⟨.hbm, 285, rfl⟩
abbrev main_v55 : Ref sig .tc := ⟨.hbm, 286, rfl⟩
abbrev main_v56 : Ref sig .tc := ⟨.hbm, 287, rfl⟩
abbrev main_call10_c : Ref sig .tc := ⟨.hbm, 288, rfl⟩
abbrev main_call10_v0 : Ref sig .tc := ⟨.hbm, 289, rfl⟩
abbrev main_call10_v1 : Ref sig .tc := ⟨.hbm, 290, rfl⟩
abbrev main_call10_c_0 : Ref sig .tc := ⟨.hbm, 291, rfl⟩
abbrev main_call10_v2 : Ref sig .tc := ⟨.hbm, 292, rfl⟩
abbrev main_call10_v3 : Ref sig .tc := ⟨.hbm, 293, rfl⟩
abbrev main_call10_v4 : Ref sig .tc := ⟨.hbm, 294, rfl⟩
abbrev main_call10_v5 : Ref sig .tc := ⟨.hbm, 295, rfl⟩
abbrev main_call10_c_1 : Ref sig .tc := ⟨.hbm, 296, rfl⟩
abbrev main_call10_c_2 : Ref sig .tc := ⟨.hbm, 297, rfl⟩
abbrev main_call10_v6 : Ref sig .tc := ⟨.hbm, 298, rfl⟩
abbrev main_call10_v7 : Ref sig .tc := ⟨.hbm, 299, rfl⟩
abbrev main_call10_v8 : Ref sig .tc := ⟨.hbm, 300, rfl⟩
abbrev main_call10_v9 : Ref sig .tc := ⟨.hbm, 301, rfl⟩
abbrev main_call10_v10 : Ref sig .tc := ⟨.hbm, 302, rfl⟩
abbrev main_call10_v11 : Ref sig .tc := ⟨.hbm, 303, rfl⟩
abbrev main_call10_c_3 : Ref sig .tc := ⟨.hbm, 304, rfl⟩
abbrev main_call10_v12 : Ref sig .tc := ⟨.hbm, 305, rfl⟩
abbrev main_call10_v13 : Ref sig .tc := ⟨.hbm, 306, rfl⟩
abbrev main_call10_v14 : Ref sig .tc := ⟨.hbm, 307, rfl⟩
abbrev main_call10_cst : Ref sig .tc := ⟨.hbm, 308, rfl⟩
abbrev main_call10_v15 : Ref sig .tc := ⟨.hbm, 309, rfl⟩
abbrev main_v57 : Ref sig .tc := ⟨.hbm, 310, rfl⟩
abbrev main_v58 : Ref sig .tc := ⟨.hbm, 311, rfl⟩
abbrev main_v59 : Ref sig .tc := ⟨.hbm, 312, rfl⟩
abbrev main_v60 : Ref sig .tc := ⟨.hbm, 313, rfl⟩
abbrev main_v61 : Ref sig .tc := ⟨.hbm, 314, rfl⟩
abbrev main_call11_c : Ref sig .tc := ⟨.hbm, 315, rfl⟩
abbrev main_call11_v0 : Ref sig .tc := ⟨.hbm, 316, rfl⟩
abbrev main_call11_v1 : Ref sig .tc := ⟨.hbm, 317, rfl⟩
abbrev main_call11_c_0 : Ref sig .tc := ⟨.hbm, 318, rfl⟩
abbrev main_call11_v2 : Ref sig .tc := ⟨.hbm, 319, rfl⟩
abbrev main_call11_v3 : Ref sig .tc := ⟨.hbm, 320, rfl⟩
abbrev main_call11_v4 : Ref sig .tc := ⟨.hbm, 321, rfl⟩
abbrev main_call11_v5 : Ref sig .tc := ⟨.hbm, 322, rfl⟩
abbrev main_call11_c_1 : Ref sig .tc := ⟨.hbm, 323, rfl⟩
abbrev main_call11_c_2 : Ref sig .tc := ⟨.hbm, 324, rfl⟩
abbrev main_call11_v6 : Ref sig .tc := ⟨.hbm, 325, rfl⟩
abbrev main_call11_v7 : Ref sig .tc := ⟨.hbm, 326, rfl⟩
abbrev main_call11_v8 : Ref sig .tc := ⟨.hbm, 327, rfl⟩
abbrev main_call11_v9 : Ref sig .tc := ⟨.hbm, 328, rfl⟩
abbrev main_call11_v10 : Ref sig .tc := ⟨.hbm, 329, rfl⟩
abbrev main_call11_v11 : Ref sig .tc := ⟨.hbm, 330, rfl⟩
abbrev main_call11_c_3 : Ref sig .tc := ⟨.hbm, 331, rfl⟩
abbrev main_call11_v12 : Ref sig .tc := ⟨.hbm, 332, rfl⟩
abbrev main_call11_v13 : Ref sig .tc := ⟨.hbm, 333, rfl⟩
abbrev main_call11_v14 : Ref sig .tc := ⟨.hbm, 334, rfl⟩
abbrev main_call11_cst : Ref sig .tc := ⟨.hbm, 335, rfl⟩
abbrev main_call11_v15 : Ref sig .tc := ⟨.hbm, 336, rfl⟩
abbrev main_v62 : Ref sig .tc := ⟨.hbm, 337, rfl⟩
abbrev main_v63 : Ref sig .tc := ⟨.hbm, 338, rfl⟩
abbrev main_v64 : Ref sig .tc := ⟨.hbm, 339, rfl⟩
abbrev main_v65 : Ref sig .tc := ⟨.hbm, 340, rfl⟩
abbrev main_v66 : Ref sig .tc := ⟨.hbm, 341, rfl⟩
abbrev main_call12_c : Ref sig .tc := ⟨.hbm, 342, rfl⟩
abbrev main_call12_v0 : Ref sig .tc := ⟨.hbm, 343, rfl⟩
abbrev main_call12_v1 : Ref sig .tc := ⟨.hbm, 344, rfl⟩
abbrev main_call12_c_0 : Ref sig .tc := ⟨.hbm, 345, rfl⟩
abbrev main_call12_v2 : Ref sig .tc := ⟨.hbm, 346, rfl⟩
abbrev main_call12_v3 : Ref sig .tc := ⟨.hbm, 347, rfl⟩
abbrev main_call12_v4 : Ref sig .tc := ⟨.hbm, 348, rfl⟩
abbrev main_call12_v5 : Ref sig .tc := ⟨.hbm, 349, rfl⟩
abbrev main_call12_c_1 : Ref sig .tc := ⟨.hbm, 350, rfl⟩
abbrev main_call12_c_2 : Ref sig .tc := ⟨.hbm, 351, rfl⟩
abbrev main_call12_v6 : Ref sig .tc := ⟨.hbm, 352, rfl⟩
abbrev main_call12_v7 : Ref sig .tc := ⟨.hbm, 353, rfl⟩
abbrev main_call12_v8 : Ref sig .tc := ⟨.hbm, 354, rfl⟩
abbrev main_call12_v9 : Ref sig .tc := ⟨.hbm, 355, rfl⟩
abbrev main_call12_v10 : Ref sig .tc := ⟨.hbm, 356, rfl⟩
abbrev main_call12_v11 : Ref sig .tc := ⟨.hbm, 357, rfl⟩
abbrev main_call12_c_3 : Ref sig .tc := ⟨.hbm, 358, rfl⟩
abbrev main_call12_v12 : Ref sig .tc := ⟨.hbm, 359, rfl⟩
abbrev main_call12_v13 : Ref sig .tc := ⟨.hbm, 360, rfl⟩
abbrev main_call12_v14 : Ref sig .tc := ⟨.hbm, 361, rfl⟩
abbrev main_call12_cst : Ref sig .tc := ⟨.hbm, 362, rfl⟩
abbrev main_call12_v15 : Ref sig .tc := ⟨.hbm, 363, rfl⟩
abbrev main_v67 : Ref sig .tc := ⟨.hbm, 364, rfl⟩
abbrev main_v68 : Ref sig .tc := ⟨.hbm, 365, rfl⟩
abbrev main_v69 : Ref sig .tc := ⟨.hbm, 366, rfl⟩
abbrev main_v70 : Ref sig .tc := ⟨.hbm, 367, rfl⟩
abbrev main_v71 : Ref sig .tc := ⟨.hbm, 368, rfl⟩
abbrev main_call13_c : Ref sig .tc := ⟨.hbm, 369, rfl⟩
abbrev main_call13_v0 : Ref sig .tc := ⟨.hbm, 370, rfl⟩
abbrev main_call13_v1 : Ref sig .tc := ⟨.hbm, 371, rfl⟩
abbrev main_call13_c_0 : Ref sig .tc := ⟨.hbm, 372, rfl⟩
abbrev main_call13_v2 : Ref sig .tc := ⟨.hbm, 373, rfl⟩
abbrev main_call13_v3 : Ref sig .tc := ⟨.hbm, 374, rfl⟩
abbrev main_call13_v4 : Ref sig .tc := ⟨.hbm, 375, rfl⟩
abbrev main_call13_v5 : Ref sig .tc := ⟨.hbm, 376, rfl⟩
abbrev main_call13_c_1 : Ref sig .tc := ⟨.hbm, 377, rfl⟩
abbrev main_call13_c_2 : Ref sig .tc := ⟨.hbm, 378, rfl⟩
abbrev main_call13_v6 : Ref sig .tc := ⟨.hbm, 379, rfl⟩
abbrev main_call13_v7 : Ref sig .tc := ⟨.hbm, 380, rfl⟩
abbrev main_call13_v8 : Ref sig .tc := ⟨.hbm, 381, rfl⟩
abbrev main_call13_v9 : Ref sig .tc := ⟨.hbm, 382, rfl⟩
abbrev main_call13_v10 : Ref sig .tc := ⟨.hbm, 383, rfl⟩
abbrev main_call13_v11 : Ref sig .tc := ⟨.hbm, 384, rfl⟩
abbrev main_call13_c_3 : Ref sig .tc := ⟨.hbm, 385, rfl⟩
abbrev main_call13_v12 : Ref sig .tc := ⟨.hbm, 386, rfl⟩
abbrev main_call13_v13 : Ref sig .tc := ⟨.hbm, 387, rfl⟩
abbrev main_call13_v14 : Ref sig .tc := ⟨.hbm, 388, rfl⟩
abbrev main_call13_cst : Ref sig .tc := ⟨.hbm, 389, rfl⟩
abbrev main_call13_v15 : Ref sig .tc := ⟨.hbm, 390, rfl⟩
abbrev main_v72 : Ref sig .tc := ⟨.hbm, 391, rfl⟩
abbrev main_v73 : Ref sig .tc := ⟨.hbm, 392, rfl⟩
abbrev main_v74 : Ref sig .tc := ⟨.hbm, 393, rfl⟩
abbrev main_v75 : Ref sig .tc := ⟨.hbm, 394, rfl⟩
abbrev main_v76 : Ref sig .tc := ⟨.hbm, 395, rfl⟩
abbrev main_call14_c : Ref sig .tc := ⟨.hbm, 396, rfl⟩
abbrev main_call14_v0 : Ref sig .tc := ⟨.hbm, 397, rfl⟩
abbrev main_call14_v1 : Ref sig .tc := ⟨.hbm, 398, rfl⟩
abbrev main_call14_c_0 : Ref sig .tc := ⟨.hbm, 399, rfl⟩
abbrev main_call14_v2 : Ref sig .tc := ⟨.hbm, 400, rfl⟩
abbrev main_call14_v3 : Ref sig .tc := ⟨.hbm, 401, rfl⟩
abbrev main_call14_v4 : Ref sig .tc := ⟨.hbm, 402, rfl⟩
abbrev main_call14_v5 : Ref sig .tc := ⟨.hbm, 403, rfl⟩
abbrev main_call14_c_1 : Ref sig .tc := ⟨.hbm, 404, rfl⟩
abbrev main_call14_c_2 : Ref sig .tc := ⟨.hbm, 405, rfl⟩
abbrev main_call14_v6 : Ref sig .tc := ⟨.hbm, 406, rfl⟩
abbrev main_call14_v7 : Ref sig .tc := ⟨.hbm, 407, rfl⟩
abbrev main_call14_v8 : Ref sig .tc := ⟨.hbm, 408, rfl⟩
abbrev main_call14_v9 : Ref sig .tc := ⟨.hbm, 409, rfl⟩
abbrev main_call14_v10 : Ref sig .tc := ⟨.hbm, 410, rfl⟩
abbrev main_call14_v11 : Ref sig .tc := ⟨.hbm, 411, rfl⟩
abbrev main_call14_c_3 : Ref sig .tc := ⟨.hbm, 412, rfl⟩
abbrev main_call14_v12 : Ref sig .tc := ⟨.hbm, 413, rfl⟩
abbrev main_call14_v13 : Ref sig .tc := ⟨.hbm, 414, rfl⟩
abbrev main_call14_v14 : Ref sig .tc := ⟨.hbm, 415, rfl⟩
abbrev main_call14_cst : Ref sig .tc := ⟨.hbm, 416, rfl⟩
abbrev main_call14_v15 : Ref sig .tc := ⟨.hbm, 417, rfl⟩
abbrev main_v77 : Ref sig .tc := ⟨.hbm, 418, rfl⟩
abbrev main_v78 : Ref sig .tc := ⟨.hbm, 419, rfl⟩
abbrev main_v79 : Ref sig .tc := ⟨.hbm, 420, rfl⟩
abbrev main_v80 : Ref sig .tc := ⟨.hbm, 421, rfl⟩
abbrev main_v81 : Ref sig .tc := ⟨.hbm, 422, rfl⟩
abbrev main_call15_c : Ref sig .tc := ⟨.hbm, 423, rfl⟩
abbrev main_call15_v0 : Ref sig .tc := ⟨.hbm, 424, rfl⟩
abbrev main_call15_v1 : Ref sig .tc := ⟨.hbm, 425, rfl⟩
abbrev main_call15_c_0 : Ref sig .tc := ⟨.hbm, 426, rfl⟩
abbrev main_call15_v2 : Ref sig .tc := ⟨.hbm, 427, rfl⟩
abbrev main_call15_v3 : Ref sig .tc := ⟨.hbm, 428, rfl⟩
abbrev main_call15_v4 : Ref sig .tc := ⟨.hbm, 429, rfl⟩
abbrev main_call15_v5 : Ref sig .tc := ⟨.hbm, 430, rfl⟩
abbrev main_call15_c_1 : Ref sig .tc := ⟨.hbm, 431, rfl⟩
abbrev main_call15_c_2 : Ref sig .tc := ⟨.hbm, 432, rfl⟩
abbrev main_call15_v6 : Ref sig .tc := ⟨.hbm, 433, rfl⟩
abbrev main_call15_v7 : Ref sig .tc := ⟨.hbm, 434, rfl⟩
abbrev main_call15_v8 : Ref sig .tc := ⟨.hbm, 435, rfl⟩
abbrev main_call15_v9 : Ref sig .tc := ⟨.hbm, 436, rfl⟩
abbrev main_call15_v10 : Ref sig .tc := ⟨.hbm, 437, rfl⟩
abbrev main_call15_v11 : Ref sig .tc := ⟨.hbm, 438, rfl⟩
abbrev main_call15_c_3 : Ref sig .tc := ⟨.hbm, 439, rfl⟩
abbrev main_call15_v12 : Ref sig .tc := ⟨.hbm, 440, rfl⟩
abbrev main_call15_v13 : Ref sig .tc := ⟨.hbm, 441, rfl⟩
abbrev main_call15_v14 : Ref sig .tc := ⟨.hbm, 442, rfl⟩
abbrev main_call15_cst : Ref sig .tc := ⟨.hbm, 443, rfl⟩
abbrev main_call15_v15 : Ref sig .tc := ⟨.hbm, 444, rfl⟩
abbrev main_v82 : Ref sig .tc := ⟨.hbm, 445, rfl⟩
abbrev main_v83 : Ref sig .tc := ⟨.hbm, 446, rfl⟩
abbrev main_v84 : Ref sig .tc := ⟨.hbm, 447, rfl⟩
abbrev main_v85 : Ref sig .tc := ⟨.hbm, 448, rfl⟩
abbrev main_v86 : Ref sig .tc := ⟨.hbm, 449, rfl⟩
abbrev main_call16_c : Ref sig .tc := ⟨.hbm, 450, rfl⟩
abbrev main_call16_v0 : Ref sig .tc := ⟨.hbm, 451, rfl⟩
abbrev main_call16_v1 : Ref sig .tc := ⟨.hbm, 452, rfl⟩
abbrev main_call16_c_0 : Ref sig .tc := ⟨.hbm, 453, rfl⟩
abbrev main_call16_v2 : Ref sig .tc := ⟨.hbm, 454, rfl⟩
abbrev main_call16_v3 : Ref sig .tc := ⟨.hbm, 455, rfl⟩
abbrev main_call16_v4 : Ref sig .tc := ⟨.hbm, 456, rfl⟩
abbrev main_call16_v5 : Ref sig .tc := ⟨.hbm, 457, rfl⟩
abbrev main_call16_c_1 : Ref sig .tc := ⟨.hbm, 458, rfl⟩
abbrev main_call16_c_2 : Ref sig .tc := ⟨.hbm, 459, rfl⟩
abbrev main_call16_v6 : Ref sig .tc := ⟨.hbm, 460, rfl⟩
abbrev main_call16_v7 : Ref sig .tc := ⟨.hbm, 461, rfl⟩
abbrev main_call16_v8 : Ref sig .tc := ⟨.hbm, 462, rfl⟩
abbrev main_call16_v9 : Ref sig .tc := ⟨.hbm, 463, rfl⟩
abbrev main_call16_v10 : Ref sig .tc := ⟨.hbm, 464, rfl⟩
abbrev main_call16_v11 : Ref sig .tc := ⟨.hbm, 465, rfl⟩
abbrev main_call16_c_3 : Ref sig .tc := ⟨.hbm, 466, rfl⟩
abbrev main_call16_v12 : Ref sig .tc := ⟨.hbm, 467, rfl⟩
abbrev main_call16_v13 : Ref sig .tc := ⟨.hbm, 468, rfl⟩
abbrev main_call16_v14 : Ref sig .tc := ⟨.hbm, 469, rfl⟩
abbrev main_call16_cst : Ref sig .tc := ⟨.hbm, 470, rfl⟩
abbrev main_call16_v15 : Ref sig .tc := ⟨.hbm, 471, rfl⟩
abbrev main_v87 : Ref sig .tc := ⟨.hbm, 472, rfl⟩
abbrev main_v88 : Ref sig .tc := ⟨.hbm, 473, rfl⟩
abbrev main_v89 : Ref sig .tc := ⟨.hbm, 474, rfl⟩
abbrev main_v90 : Ref sig .tc := ⟨.hbm, 475, rfl⟩
abbrev main_v91 : Ref sig .tc := ⟨.hbm, 476, rfl⟩
abbrev main_call17_c : Ref sig .tc := ⟨.hbm, 477, rfl⟩
abbrev main_call17_v0 : Ref sig .tc := ⟨.hbm, 478, rfl⟩
abbrev main_call17_v1 : Ref sig .tc := ⟨.hbm, 479, rfl⟩
abbrev main_call17_c_0 : Ref sig .tc := ⟨.hbm, 480, rfl⟩
abbrev main_call17_v2 : Ref sig .tc := ⟨.hbm, 481, rfl⟩
abbrev main_call17_v3 : Ref sig .tc := ⟨.hbm, 482, rfl⟩
abbrev main_call17_v4 : Ref sig .tc := ⟨.hbm, 483, rfl⟩
abbrev main_call17_v5 : Ref sig .tc := ⟨.hbm, 484, rfl⟩
abbrev main_call17_c_1 : Ref sig .tc := ⟨.hbm, 485, rfl⟩
abbrev main_call17_c_2 : Ref sig .tc := ⟨.hbm, 486, rfl⟩
abbrev main_call17_v6 : Ref sig .tc := ⟨.hbm, 487, rfl⟩
abbrev main_call17_v7 : Ref sig .tc := ⟨.hbm, 488, rfl⟩
abbrev main_call17_v8 : Ref sig .tc := ⟨.hbm, 489, rfl⟩
abbrev main_call17_v9 : Ref sig .tc := ⟨.hbm, 490, rfl⟩
abbrev main_call17_v10 : Ref sig .tc := ⟨.hbm, 491, rfl⟩
abbrev main_call17_v11 : Ref sig .tc := ⟨.hbm, 492, rfl⟩
abbrev main_call17_c_3 : Ref sig .tc := ⟨.hbm, 493, rfl⟩
abbrev main_call17_v12 : Ref sig .tc := ⟨.hbm, 494, rfl⟩
abbrev main_call17_v13 : Ref sig .tc := ⟨.hbm, 495, rfl⟩
abbrev main_call17_v14 : Ref sig .tc := ⟨.hbm, 496, rfl⟩
abbrev main_call17_cst : Ref sig .tc := ⟨.hbm, 497, rfl⟩
abbrev main_call17_v15 : Ref sig .tc := ⟨.hbm, 498, rfl⟩
abbrev main_v92 : Ref sig .tc := ⟨.hbm, 499, rfl⟩
abbrev main_v93 : Ref sig .tc := ⟨.hbm, 500, rfl⟩
abbrev main_v94 : Ref sig .tc := ⟨.hbm, 501, rfl⟩
abbrev main_v95 : Ref sig .tc := ⟨.hbm, 502, rfl⟩
abbrev main_v96 : Ref sig .tc := ⟨.hbm, 503, rfl⟩
abbrev main_call18_c : Ref sig .tc := ⟨.hbm, 504, rfl⟩
abbrev main_call18_v0 : Ref sig .tc := ⟨.hbm, 505, rfl⟩
abbrev main_call18_v1 : Ref sig .tc := ⟨.hbm, 506, rfl⟩
abbrev main_call18_c_0 : Ref sig .tc := ⟨.hbm, 507, rfl⟩
abbrev main_call18_v2 : Ref sig .tc := ⟨.hbm, 508, rfl⟩
abbrev main_call18_v3 : Ref sig .tc := ⟨.hbm, 509, rfl⟩
abbrev main_call18_v4 : Ref sig .tc := ⟨.hbm, 510, rfl⟩
abbrev main_call18_v5 : Ref sig .tc := ⟨.hbm, 511, rfl⟩
abbrev main_call18_c_1 : Ref sig .tc := ⟨.hbm, 512, rfl⟩
abbrev main_call18_c_2 : Ref sig .tc := ⟨.hbm, 513, rfl⟩
abbrev main_call18_v6 : Ref sig .tc := ⟨.hbm, 514, rfl⟩
abbrev main_call18_v7 : Ref sig .tc := ⟨.hbm, 515, rfl⟩
abbrev main_call18_v8 : Ref sig .tc := ⟨.hbm, 516, rfl⟩
abbrev main_call18_v9 : Ref sig .tc := ⟨.hbm, 517, rfl⟩
abbrev main_call18_v10 : Ref sig .tc := ⟨.hbm, 518, rfl⟩
abbrev main_call18_v11 : Ref sig .tc := ⟨.hbm, 519, rfl⟩
abbrev main_call18_c_3 : Ref sig .tc := ⟨.hbm, 520, rfl⟩
abbrev main_call18_v12 : Ref sig .tc := ⟨.hbm, 521, rfl⟩
abbrev main_call18_v13 : Ref sig .tc := ⟨.hbm, 522, rfl⟩
abbrev main_call18_v14 : Ref sig .tc := ⟨.hbm, 523, rfl⟩
abbrev main_call18_cst : Ref sig .tc := ⟨.hbm, 524, rfl⟩
abbrev main_call18_v15 : Ref sig .tc := ⟨.hbm, 525, rfl⟩
abbrev main_v97 : Ref sig .tc := ⟨.hbm, 526, rfl⟩
abbrev main_v98 : Ref sig .tc := ⟨.hbm, 527, rfl⟩
abbrev main_v99 : Ref sig .tc := ⟨.hbm, 528, rfl⟩
abbrev main_v100 : Ref sig .tc := ⟨.hbm, 529, rfl⟩
abbrev main_v101 : Ref sig .tc := ⟨.hbm, 530, rfl⟩
abbrev main_call19_c : Ref sig .tc := ⟨.hbm, 531, rfl⟩
abbrev main_call19_v0 : Ref sig .tc := ⟨.hbm, 532, rfl⟩
abbrev main_call19_v1 : Ref sig .tc := ⟨.hbm, 533, rfl⟩
abbrev main_call19_c_0 : Ref sig .tc := ⟨.hbm, 534, rfl⟩
abbrev main_call19_v2 : Ref sig .tc := ⟨.hbm, 535, rfl⟩
abbrev main_call19_v3 : Ref sig .tc := ⟨.hbm, 536, rfl⟩
abbrev main_call19_v4 : Ref sig .tc := ⟨.hbm, 537, rfl⟩
abbrev main_call19_v5 : Ref sig .tc := ⟨.hbm, 538, rfl⟩
abbrev main_call19_c_1 : Ref sig .tc := ⟨.hbm, 539, rfl⟩
abbrev main_call19_c_2 : Ref sig .tc := ⟨.hbm, 540, rfl⟩
abbrev main_call19_v6 : Ref sig .tc := ⟨.hbm, 541, rfl⟩
abbrev main_call19_v7 : Ref sig .tc := ⟨.hbm, 542, rfl⟩
abbrev main_call19_v8 : Ref sig .tc := ⟨.hbm, 543, rfl⟩
abbrev main_call19_v9 : Ref sig .tc := ⟨.hbm, 544, rfl⟩
abbrev main_call19_v10 : Ref sig .tc := ⟨.hbm, 545, rfl⟩
abbrev main_call19_v11 : Ref sig .tc := ⟨.hbm, 546, rfl⟩
abbrev main_call19_c_3 : Ref sig .tc := ⟨.hbm, 547, rfl⟩
abbrev main_call19_v12 : Ref sig .tc := ⟨.hbm, 548, rfl⟩
abbrev main_call19_v13 : Ref sig .tc := ⟨.hbm, 549, rfl⟩
abbrev main_call19_v14 : Ref sig .tc := ⟨.hbm, 550, rfl⟩
abbrev main_call19_cst : Ref sig .tc := ⟨.hbm, 551, rfl⟩
abbrev main_call19_v15 : Ref sig .tc := ⟨.hbm, 552, rfl⟩
abbrev main_v102 : Ref sig .tc := ⟨.hbm, 553, rfl⟩
abbrev main_v103 : Ref sig .tc := ⟨.hbm, 554, rfl⟩
abbrev main_v104 : Ref sig .tc := ⟨.hbm, 555, rfl⟩
abbrev main_v105 : Ref sig .tc := ⟨.hbm, 556, rfl⟩
abbrev main_v106 : Ref sig .tc := ⟨.hbm, 557, rfl⟩
abbrev main_call20_c : Ref sig .tc := ⟨.hbm, 558, rfl⟩
abbrev main_call20_v0 : Ref sig .tc := ⟨.hbm, 559, rfl⟩
abbrev main_call20_v1 : Ref sig .tc := ⟨.hbm, 560, rfl⟩
abbrev main_call20_c_0 : Ref sig .tc := ⟨.hbm, 561, rfl⟩
abbrev main_call20_v2 : Ref sig .tc := ⟨.hbm, 562, rfl⟩
abbrev main_call20_v3 : Ref sig .tc := ⟨.hbm, 563, rfl⟩
abbrev main_call20_v4 : Ref sig .tc := ⟨.hbm, 564, rfl⟩
abbrev main_call20_v5 : Ref sig .tc := ⟨.hbm, 565, rfl⟩
abbrev main_call20_c_1 : Ref sig .tc := ⟨.hbm, 566, rfl⟩
abbrev main_call20_c_2 : Ref sig .tc := ⟨.hbm, 567, rfl⟩
abbrev main_call20_v6 : Ref sig .tc := ⟨.hbm, 568, rfl⟩
abbrev main_call20_v7 : Ref sig .tc := ⟨.hbm, 569, rfl⟩
abbrev main_call20_v8 : Ref sig .tc := ⟨.hbm, 570, rfl⟩
abbrev main_call20_v9 : Ref sig .tc := ⟨.hbm, 571, rfl⟩
abbrev main_call20_v10 : Ref sig .tc := ⟨.hbm, 572, rfl⟩
abbrev main_call20_v11 : Ref sig .tc := ⟨.hbm, 573, rfl⟩
abbrev main_call20_c_3 : Ref sig .tc := ⟨.hbm, 574, rfl⟩
abbrev main_call20_v12 : Ref sig .tc := ⟨.hbm, 575, rfl⟩
abbrev main_call20_v13 : Ref sig .tc := ⟨.hbm, 576, rfl⟩
abbrev main_call20_v14 : Ref sig .tc := ⟨.hbm, 577, rfl⟩
abbrev main_call20_cst : Ref sig .tc := ⟨.hbm, 578, rfl⟩
abbrev main_call20_v15 : Ref sig .tc := ⟨.hbm, 579, rfl⟩
abbrev main_v107 : Ref sig .tc := ⟨.hbm, 580, rfl⟩
abbrev main_v108 : Ref sig .tc := ⟨.hbm, 581, rfl⟩
abbrev main_v109 : Ref sig .tc := ⟨.hbm, 582, rfl⟩
abbrev main_v110 : Ref sig .tc := ⟨.hbm, 583, rfl⟩
abbrev main_v111 : Ref sig .tc := ⟨.hbm, 584, rfl⟩
abbrev main_call21_c : Ref sig .tc := ⟨.hbm, 585, rfl⟩
abbrev main_call21_v0 : Ref sig .tc := ⟨.hbm, 586, rfl⟩
abbrev main_call21_v1 : Ref sig .tc := ⟨.hbm, 587, rfl⟩
abbrev main_call21_c_0 : Ref sig .tc := ⟨.hbm, 588, rfl⟩
abbrev main_call21_v2 : Ref sig .tc := ⟨.hbm, 589, rfl⟩
abbrev main_call21_v3 : Ref sig .tc := ⟨.hbm, 590, rfl⟩
abbrev main_call21_v4 : Ref sig .tc := ⟨.hbm, 591, rfl⟩
abbrev main_call21_v5 : Ref sig .tc := ⟨.hbm, 592, rfl⟩
abbrev main_call21_c_1 : Ref sig .tc := ⟨.hbm, 593, rfl⟩
abbrev main_call21_c_2 : Ref sig .tc := ⟨.hbm, 594, rfl⟩
abbrev main_call21_v6 : Ref sig .tc := ⟨.hbm, 595, rfl⟩
abbrev main_call21_v7 : Ref sig .tc := ⟨.hbm, 596, rfl⟩
abbrev main_call21_v8 : Ref sig .tc := ⟨.hbm, 597, rfl⟩
abbrev main_call21_v9 : Ref sig .tc := ⟨.hbm, 598, rfl⟩
abbrev main_call21_v10 : Ref sig .tc := ⟨.hbm, 599, rfl⟩
abbrev main_call21_v11 : Ref sig .tc := ⟨.hbm, 600, rfl⟩
abbrev main_call21_c_3 : Ref sig .tc := ⟨.hbm, 601, rfl⟩
abbrev main_call21_v12 : Ref sig .tc := ⟨.hbm, 602, rfl⟩
abbrev main_call21_v13 : Ref sig .tc := ⟨.hbm, 603, rfl⟩
abbrev main_call21_v14 : Ref sig .tc := ⟨.hbm, 604, rfl⟩
abbrev main_call21_cst : Ref sig .tc := ⟨.hbm, 605, rfl⟩
abbrev main_call21_v15 : Ref sig .tc := ⟨.hbm, 606, rfl⟩
abbrev main_v112 : Ref sig .tc := ⟨.hbm, 607, rfl⟩
abbrev main_v113 : Ref sig .tc := ⟨.hbm, 608, rfl⟩
abbrev main_v114 : Ref sig .tc := ⟨.hbm, 609, rfl⟩
abbrev main_v115 : Ref sig .tc := ⟨.hbm, 610, rfl⟩
abbrev main_v116 : Ref sig .tc := ⟨.hbm, 611, rfl⟩
abbrev main_call22_c : Ref sig .tc := ⟨.hbm, 612, rfl⟩
abbrev main_call22_v0 : Ref sig .tc := ⟨.hbm, 613, rfl⟩
abbrev main_call22_v1 : Ref sig .tc := ⟨.hbm, 614, rfl⟩
abbrev main_call22_c_0 : Ref sig .tc := ⟨.hbm, 615, rfl⟩
abbrev main_call22_v2 : Ref sig .tc := ⟨.hbm, 616, rfl⟩
abbrev main_call22_v3 : Ref sig .tc := ⟨.hbm, 617, rfl⟩
abbrev main_call22_v4 : Ref sig .tc := ⟨.hbm, 618, rfl⟩
abbrev main_call22_v5 : Ref sig .tc := ⟨.hbm, 619, rfl⟩
abbrev main_call22_c_1 : Ref sig .tc := ⟨.hbm, 620, rfl⟩
abbrev main_call22_c_2 : Ref sig .tc := ⟨.hbm, 621, rfl⟩
abbrev main_call22_v6 : Ref sig .tc := ⟨.hbm, 622, rfl⟩
abbrev main_call22_v7 : Ref sig .tc := ⟨.hbm, 623, rfl⟩
abbrev main_call22_v8 : Ref sig .tc := ⟨.hbm, 624, rfl⟩
abbrev main_call22_v9 : Ref sig .tc := ⟨.hbm, 625, rfl⟩
abbrev main_call22_v10 : Ref sig .tc := ⟨.hbm, 626, rfl⟩
abbrev main_call22_v11 : Ref sig .tc := ⟨.hbm, 627, rfl⟩
abbrev main_call22_c_3 : Ref sig .tc := ⟨.hbm, 628, rfl⟩
abbrev main_call22_v12 : Ref sig .tc := ⟨.hbm, 629, rfl⟩
abbrev main_call22_v13 : Ref sig .tc := ⟨.hbm, 630, rfl⟩
abbrev main_call22_v14 : Ref sig .tc := ⟨.hbm, 631, rfl⟩
abbrev main_call22_cst : Ref sig .tc := ⟨.hbm, 632, rfl⟩
abbrev main_call22_v15 : Ref sig .tc := ⟨.hbm, 633, rfl⟩
abbrev main_v117 : Ref sig .tc := ⟨.hbm, 634, rfl⟩
abbrev main_v118 : Ref sig .tc := ⟨.hbm, 635, rfl⟩
abbrev main_v119 : Ref sig .tc := ⟨.hbm, 636, rfl⟩
abbrev main_v120 : Ref sig .tc := ⟨.hbm, 637, rfl⟩
abbrev main_v121 : Ref sig .tc := ⟨.hbm, 638, rfl⟩
abbrev main_call23_c : Ref sig .tc := ⟨.hbm, 639, rfl⟩
abbrev main_call23_v0 : Ref sig .tc := ⟨.hbm, 640, rfl⟩
abbrev main_call23_v1 : Ref sig .tc := ⟨.hbm, 641, rfl⟩
abbrev main_call23_c_0 : Ref sig .tc := ⟨.hbm, 642, rfl⟩
abbrev main_call23_v2 : Ref sig .tc := ⟨.hbm, 643, rfl⟩
abbrev main_call23_v3 : Ref sig .tc := ⟨.hbm, 644, rfl⟩
abbrev main_call23_v4 : Ref sig .tc := ⟨.hbm, 645, rfl⟩
abbrev main_call23_v5 : Ref sig .tc := ⟨.hbm, 646, rfl⟩
abbrev main_call23_c_1 : Ref sig .tc := ⟨.hbm, 647, rfl⟩
abbrev main_call23_c_2 : Ref sig .tc := ⟨.hbm, 648, rfl⟩
abbrev main_call23_v6 : Ref sig .tc := ⟨.hbm, 649, rfl⟩
abbrev main_call23_v7 : Ref sig .tc := ⟨.hbm, 650, rfl⟩
abbrev main_call23_v8 : Ref sig .tc := ⟨.hbm, 651, rfl⟩
abbrev main_call23_v9 : Ref sig .tc := ⟨.hbm, 652, rfl⟩
abbrev main_call23_v10 : Ref sig .tc := ⟨.hbm, 653, rfl⟩
abbrev main_call23_v11 : Ref sig .tc := ⟨.hbm, 654, rfl⟩
abbrev main_call23_c_3 : Ref sig .tc := ⟨.hbm, 655, rfl⟩
abbrev main_call23_v12 : Ref sig .tc := ⟨.hbm, 656, rfl⟩
abbrev main_call23_v13 : Ref sig .tc := ⟨.hbm, 657, rfl⟩
abbrev main_call23_v14 : Ref sig .tc := ⟨.hbm, 658, rfl⟩
abbrev main_call23_cst : Ref sig .tc := ⟨.hbm, 659, rfl⟩
abbrev main_call23_v15 : Ref sig .tc := ⟨.hbm, 660, rfl⟩
abbrev main_v122 : Ref sig .tc := ⟨.hbm, 661, rfl⟩
abbrev main_v123 : Ref sig .tc := ⟨.hbm, 662, rfl⟩
abbrev main_v124 : Ref sig .tc := ⟨.hbm, 663, rfl⟩
abbrev main_v125 : Ref sig .tc := ⟨.hbm, 664, rfl⟩
abbrev main_v126 : Ref sig .tc := ⟨.hbm, 665, rfl⟩
abbrev main_call24_c : Ref sig .tc := ⟨.hbm, 666, rfl⟩
abbrev main_call24_v0 : Ref sig .tc := ⟨.hbm, 667, rfl⟩
abbrev main_call24_v1 : Ref sig .tc := ⟨.hbm, 668, rfl⟩
abbrev main_call24_c_0 : Ref sig .tc := ⟨.hbm, 669, rfl⟩
abbrev main_call24_v2 : Ref sig .tc := ⟨.hbm, 670, rfl⟩
abbrev main_call24_v3 : Ref sig .tc := ⟨.hbm, 671, rfl⟩
abbrev main_call24_v4 : Ref sig .tc := ⟨.hbm, 672, rfl⟩
abbrev main_call24_v5 : Ref sig .tc := ⟨.hbm, 673, rfl⟩
abbrev main_call24_c_1 : Ref sig .tc := ⟨.hbm, 674, rfl⟩
abbrev main_call24_c_2 : Ref sig .tc := ⟨.hbm, 675, rfl⟩
abbrev main_call24_v6 : Ref sig .tc := ⟨.hbm, 676, rfl⟩
abbrev main_call24_v7 : Ref sig .tc := ⟨.hbm, 677, rfl⟩
abbrev main_call24_v8 : Ref sig .tc := ⟨.hbm, 678, rfl⟩
abbrev main_call24_v9 : Ref sig .tc := ⟨.hbm, 679, rfl⟩
abbrev main_call24_v10 : Ref sig .tc := ⟨.hbm, 680, rfl⟩
abbrev main_call24_v11 : Ref sig .tc := ⟨.hbm, 681, rfl⟩
abbrev main_call24_c_3 : Ref sig .tc := ⟨.hbm, 682, rfl⟩
abbrev main_call24_v12 : Ref sig .tc := ⟨.hbm, 683, rfl⟩
abbrev main_call24_v13 : Ref sig .tc := ⟨.hbm, 684, rfl⟩
abbrev main_call24_v14 : Ref sig .tc := ⟨.hbm, 685, rfl⟩
abbrev main_call24_cst : Ref sig .tc := ⟨.hbm, 686, rfl⟩
abbrev main_call24_v15 : Ref sig .tc := ⟨.hbm, 687, rfl⟩
abbrev main_v127 : Ref sig .tc := ⟨.hbm, 688, rfl⟩
abbrev main_v128 : Ref sig .tc := ⟨.hbm, 689, rfl⟩
abbrev main_v129 : Ref sig .tc := ⟨.hbm, 690, rfl⟩
abbrev main_v130 : Ref sig .tc := ⟨.hbm, 691, rfl⟩
abbrev main_v131 : Ref sig .tc := ⟨.hbm, 692, rfl⟩
abbrev main_call25_c : Ref sig .tc := ⟨.hbm, 693, rfl⟩
abbrev main_call25_v0 : Ref sig .tc := ⟨.hbm, 694, rfl⟩
abbrev main_call25_v1 : Ref sig .tc := ⟨.hbm, 695, rfl⟩
abbrev main_call25_c_0 : Ref sig .tc := ⟨.hbm, 696, rfl⟩
abbrev main_call25_v2 : Ref sig .tc := ⟨.hbm, 697, rfl⟩
abbrev main_call25_v3 : Ref sig .tc := ⟨.hbm, 698, rfl⟩
abbrev main_call25_v4 : Ref sig .tc := ⟨.hbm, 699, rfl⟩
abbrev main_call25_v5 : Ref sig .tc := ⟨.hbm, 700, rfl⟩
abbrev main_call25_c_1 : Ref sig .tc := ⟨.hbm, 701, rfl⟩
abbrev main_call25_c_2 : Ref sig .tc := ⟨.hbm, 702, rfl⟩
abbrev main_call25_v6 : Ref sig .tc := ⟨.hbm, 703, rfl⟩
abbrev main_call25_v7 : Ref sig .tc := ⟨.hbm, 704, rfl⟩
abbrev main_call25_v8 : Ref sig .tc := ⟨.hbm, 705, rfl⟩
abbrev main_call25_v9 : Ref sig .tc := ⟨.hbm, 706, rfl⟩
abbrev main_call25_v10 : Ref sig .tc := ⟨.hbm, 707, rfl⟩
abbrev main_call25_v11 : Ref sig .tc := ⟨.hbm, 708, rfl⟩
abbrev main_call25_c_3 : Ref sig .tc := ⟨.hbm, 709, rfl⟩
abbrev main_call25_v12 : Ref sig .tc := ⟨.hbm, 710, rfl⟩
abbrev main_call25_v13 : Ref sig .tc := ⟨.hbm, 711, rfl⟩
abbrev main_call25_v14 : Ref sig .tc := ⟨.hbm, 712, rfl⟩
abbrev main_call25_cst : Ref sig .tc := ⟨.hbm, 713, rfl⟩
abbrev main_call25_v15 : Ref sig .tc := ⟨.hbm, 714, rfl⟩
abbrev main_v132 : Ref sig .tc := ⟨.hbm, 715, rfl⟩
abbrev main_v133 : Ref sig .tc := ⟨.hbm, 716, rfl⟩
abbrev main_v134 : Ref sig .tc := ⟨.hbm, 717, rfl⟩
abbrev main_v135 : Ref sig .tc := ⟨.hbm, 718, rfl⟩
abbrev main_v136 : Ref sig .tc := ⟨.hbm, 719, rfl⟩
abbrev main_v137 : Ref sig .tc := ⟨.hbm, 720, rfl⟩
abbrev main_v138 : Ref sig .tc := ⟨.hbm, 721, rfl⟩
abbrev main_v139 : Ref sig .tc := ⟨.hbm, 722, rfl⟩
abbrev main_v140 : Ref sig .tc := ⟨.hbm, 723, rfl⟩
abbrev main_v141 : Ref sig .tc := ⟨.hbm, 724, rfl⟩
abbrev main_cst : Ref sig .tc := ⟨.hbm, 725, rfl⟩
abbrev main_v142 : Ref sig .tc := ⟨.hbm, 726, rfl⟩
abbrev main_v143 : Ref sig .tc := ⟨.hbm, 727, rfl⟩
abbrev main_cst_0 : Ref sig .tc := ⟨.hbm, 728, rfl⟩
abbrev main_v144 : Ref sig .tc := ⟨.hbm, 729, rfl⟩
abbrev main_v145 : Ref sig .tc := ⟨.hbm, 730, rfl⟩
abbrev main_v146 : Ref sig .tc := ⟨.hbm, 731, rfl⟩
abbrev main_v147 : Ref sig .tc := ⟨.hbm, 732, rfl⟩
abbrev main_v148 : Ref sig .tc := ⟨.hbm, 733, rfl⟩
abbrev main_v149 : Ref sig .tc := ⟨.hbm, 734, rfl⟩
abbrev main_v150 : Ref sig .tc := ⟨.hbm, 735, rfl⟩
abbrev main_v151 : Ref sig .tc := ⟨.hbm, 736, rfl⟩
abbrev main_v152 : Ref sig .tc := ⟨.hbm, 737, rfl⟩
abbrev main_v153 : Ref sig .tc := ⟨.hbm, 738, rfl⟩
abbrev main_v154 : Ref sig .tc := ⟨.hbm, 739, rfl⟩
abbrev main_v155 : Ref sig .tc := ⟨.hbm, 740, rfl⟩
abbrev main_cst_1 : Ref sig .tc := ⟨.hbm, 741, rfl⟩
abbrev main_v156 : Ref sig .tc := ⟨.hbm, 742, rfl⟩
abbrev main_v157 : Ref sig .tc := ⟨.hbm, 743, rfl⟩
abbrev main_v158 : Ref sig .tc := ⟨.hbm, 744, rfl⟩
abbrev main_v159 : Ref sig .tc := ⟨.hbm, 745, rfl⟩
abbrev main_v160 : Ref sig .tc := ⟨.hbm, 746, rfl⟩
abbrev main_v161 : Ref sig .tc := ⟨.hbm, 747, rfl⟩

abbrev nD : Nat := 1
abbrev τ : Topo := Topo.v7x

variable {F : FTy → Type} [FloatOps F]
-- ==== Proof.Body.lean ====
module

public import proofs.«01_k».proof.Proof.Gen.KernelIdeal.Skeleton
public import proofs.«01_k».proof.Proof.Gen.KernelIdeal.Frame
public import Idealize.ShloMosaic.Lib.VecWindow

@[expose] public section

set_option maxRecDepth 16384

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the body computes, over the contents of the staging buffers -/

/-- Rows 0 … 831 of the output weight, the rows of the embeddings. -/
def wRows (x7 : Vec F S845x32 .f32) : Vec F S832x32 .f32 :=
  View.ld x7 (Rect.unit (s := S845x32) ![0, 0] S832x32.size inb_S845x32_S832x32_0_0)
/-- Rows 832 … 844 of the output weight, the rows of the numbers. -/
def wNums (x7 : Vec F S845x32 .f32) : Vec F S13x32 .f32 :=
  View.ld x7 (Rect.unit (s := S845x32) ![832, 0] S13x32.size inb_S845x32_S13x32_832_0)
/-- Row 0 of every table of bins. -/
def bins0 (x1 : Vec F S10x2x32 .f32) : Vec F S10x1x32 .f32 :=
  View.ld x1 (Rect.unit (s := S10x2x32) ![0, 0, 0] S10x1x32.size inb_S10x2x32_S10x1x32_0_0_0)
/-- Row 1 of every table of bins. -/
def bins1 (x1 : Vec F S10x2x32 .f32) : Vec F S10x1x32 .f32 :=
  View.ld x1 (Rect.unit (s := S10x2x32) ![0, 1, 0] S10x1x32.size inb_S10x2x32_S10x1x32_0_1_0)
/-- Row 0 of every table of categories. -/
def cats0 (x2 : Vec F S16x2x32 .f32) : Vec F S16x1x32 .f32 :=
  View.ld x2 (Rect.unit (s := S16x2x32) ![0, 0, 0] S16x1x32.size inb_S16x2x32_S16x1x32_0_0_0)
/-- Row 1 of every table of categories. -/
def cats1 (x2 : Vec F S16x2x32 .f32) : Vec F S16x1x32 .f32 :=
  View.ld x2 (Rect.unit (s := S16x2x32) ![0, 1, 0] S16x1x32.size inb_S16x2x32_S16x1x32_0_1_0)

/-- The combined weight the first point leaves in the first scratch buffer. -/
def valP (x1 : Vec F S10x2x32 .f32) (x2 : Vec F S16x2x32 .f32) (x3 : Vec F S13x13 .f32) (x7 : Vec F S845x32 .f32) : Vec F S39x45 .f32 :=
  k0_pay7 (wRows x7) (k0_pay2 (bins0 x1) (cats0 x2) (bins1 x1) (cats1 x2)) (iota .tc S26x832 32 [0] iota_S26x832_d0_w32) k0_pay3 k0_pay4 k0_pay5 x3
/-- The combined bias the first point leaves in the second scratch buffer. -/
def valB (x1 : Vec F S10x2x32 .f32) (x2 : Vec F S16x2x32 .f32) (x4 : Vec F S13 .f32) (x6 : Vec F S13 .f32) (x7 : Vec F S845x32 .f32) (x8 : Vec F S32 .f32) : Vec F S1x45 .f32 :=
  k0_pay8 (wRows x7) (wNums x7) (k0_pay1 (bins0 x1) (cats0 x2)) (iota .tc S26x832 32 [0] iota_S26x832_d0_w32) k0_pay3 k0_pay4 k0_pay5 x8 x6 x4
/-- The weight of the second half of the numbers' path, which the first point leaves in the third scratch buffer. -/
def valG (x5 : Vec F S13x13 .f32) (x7 : Vec F S845x32 .f32) : Vec F S45x32 .f32 :=
  k0_pay10 (k0_pay9 (wNums x7) x5)

/-- The condition the body branches on, at the grid coordinates `i`: both are zero. -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem cond0_iff : ∀ t : Fin cfg0.N, cond0 (grid0.coords t) ↔ t.val = 0 :=
  (by decide +kernel : ∀ t : Fin grid0.N, cond0 (grid0.coords t) ↔ t.val = 0)

set_option maxHeartbeats 4000000 in
/-- THE BODY AT THE FIRST POINT, on any whole buffers: the inputs are left as they were, the three scratch buffers hold the
    combined weights, and the output's buffer holds the block's result by those weights. -/
theorem body_A (c : Dev nD) (i : grid0.Coords) (arg2 : Memref sig .tc .vmem S1024x8x39 .f32) (harg2 : arg2.IsWhole) (arg3 : Memref sig .tc .vmem S10x2x32 .f32) (harg3 : arg3.IsWhole) (arg4 : Memref sig .tc .vmem S16x2x32 .f32) (harg4 : arg4.IsWhole) (arg5 : Memref sig .tc .vmem S13x13 .f32) (harg5 : arg5.IsWhole) (arg6 : Memref sig .tc .vmem S13 .f32) (harg6 : arg6.IsWhole) (arg7 : Memref sig .tc .vmem S13x13 .f32) (harg7 : arg7.IsWhole) (arg8 : Memref sig .tc .vmem S13 .f32) (harg8 : arg8.IsWhole) (arg9 : Memref sig .tc .vmem S845x32 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1024x8x32 .f32) (harg13 : arg13.IsWhole) (arg14 : Memref sig .tc .vmem S39x45 .f32) (harg14 : arg14.IsWhole) (arg15 : Memref sig .tc .vmem S1x45 .f32) (harg15 : arg15.IsWhole) (arg16 : Memref sig .tc .vmem S45x32 .f32) (harg16 : arg16.IsWhole) (hc0 : cond0 i)
    (x0 : Vec F S1024x8x39 .f32) (x1 : Vec F S10x2x32 .f32) (x2 : Vec F S16x2x32 .f32) (x3 : Vec F S13x13 .f32) (x4 : Vec F S13 .f32) (x5 : Vec F S13x13 .f32) (x6 : Vec F S13 .f32) (x7 : Vec F S845x32 .f32) (x8 : Vec F S32 .f32) (x9 : Vec F S32x32 .f32) (x10 : Vec F S32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (k0_pay11 x0 (valP x1 x2 x3 x7) (valB x1 x2 x4 x6 x7 x8) (valG x5 x7) x9 x10) ∗ owns (c : Thread nD τ) arg14 fullShare (valP x1 x2 x3 x7) ∗ owns (c : Thread nD τ) arg15 fullShare (valB x1 x2 x4 x6 x7 x8) ∗ owns (c : Thread nD τ) arg16 fullShare (valG x5 x7)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  simp only [k0_part3_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, ⟨%ds1, %fs1, -, HS1⟩, ⟨%ds2, %fs2, -, HS2⟩, Hk⟩
  subst hf0; subst hf1; subst hf2; subst hf3; subst hf4; subst hf5; subst hf6; subst hf7; subst hf8; subst hf9; subst hf10
  sl_exec (disch := first | sl_exact hc0)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr
    swap; · iexact H11
    ipureintro; refine (View.read_writes_full _ _ inb_S1024x8x32_S1024x8x32_0_0_0 _ _).trans ?_
    unfold body_A.sl.r_5; congr 1 <;> first | (refine (View.readCov_full _ inb_S39x45_S39x45_0_0 inb_S39x45_S39x45_0_0 _ _).trans ?_; unfold valP; congr 1 <;> exact View.readAt_full _ _ _) | (refine (View.readCov_full _ inb_S1x45_S1x45_0_0 inb_S1x45_S1x45_0_0 _ _).trans ?_; unfold valB; congr 1 <;> exact View.readAt_full _ _ _) | (refine (View.readCov_full _ inb_S45x32_S45x32_0_0 inb_S45x32_S45x32_0_0 _ _).trans ?_; unfold valG body_A.sl.r_4; congr 2; exact View.readAt_full _ _ _) | exact View.readAt_full _ _ _
  isplitl [HS0]
  · iexists _; isplitr
    swap; · iexact HS0
    ipureintro; refine (View.read_writes_full _ _ inb_S39x45_S39x45_0_0 _ _).trans ?_
    unfold valP; congr 1 <;> exact View.readAt_full _ _ _
  isplitl [HS1]
  · iexists _; isplitr
    swap; · iexact HS1
    ipureintro; refine (View.read_writes_full _ _ inb_S1x45_S1x45_0_0 _ _).trans ?_
    unfold valB; congr 1 <;> exact View.readAt_full _ _ _
  · iexists _; isplitr
    swap; · iexact HS2
    ipureintro; refine (View.read_writes_full _ _ inb_S45x32_S45x32_0_0 _ _).trans ?_
    unfold valG body_A.sl.r_4; congr 2; exact View.readAt_full _ _ _

set_option maxHeartbeats 4000000 in
/-- THE BODY AT ANY OTHER POINT, on any whole buffers: the inputs and the scratch buffers are left as they were, and the
    output's buffer holds the block's result by what the scratch buffers hold. -/
theorem body_B (c : Dev nD) (i : grid0.Coords) (arg2 : Memref sig .tc .vmem S1024x8x39 .f32) (harg2 : arg2.IsWhole) (arg3 : Memref sig .tc .vmem S10x2x32 .f32) (harg3 : arg3.IsWhole) (arg4 : Memref sig .tc .vmem S16x2x32 .f32) (harg4 : arg4.IsWhole) (arg5 : Memref sig .tc .vmem S13x13 .f32) (harg5 : arg5.IsWhole) (arg6 : Memref sig .tc .vmem S13 .f32) (harg6 : arg6.IsWhole) (arg7 : Memref sig .tc .vmem S13x13 .f32) (harg7 : arg7.IsWhole) (arg8 : Memref sig .tc .vmem S13 .f32) (harg8 : arg8.IsWhole) (arg9 : Memref sig .tc .vmem S845x32 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1024x8x32 .f32) (harg13 : arg13.IsWhole) (arg14 : Memref sig .tc .vmem S39x45 .f32) (harg14 : arg14.IsWhole) (arg15 : Memref sig .tc .vmem S1x45 .f32) (harg15 : arg15.IsWhole) (arg16 : Memref sig .tc .vmem S45x32 .f32) (harg16 : arg16.IsWhole) (hc0 : ¬ cond0 i)
    (x0 : Vec F S1024x8x39 .f32) (x1 : Vec F S10x2x32 .f32) (x2 : Vec F S16x2x32 .f32) (x3 : Vec F S13x13 .f32) (x4 : Vec F S13 .f32) (x5 : Vec F S13x13 .f32) (x6 : Vec F S13 .f32) (x7 : Vec F S845x32 .f32) (x8 : Vec F S32 .f32) (x9 : Vec F S32x32 .f32) (x10 : Vec F S32 .f32) (s14 : Vec F S39x45 .f32) (s15 : Vec F S1x45 .f32) (s16 : Vec F S45x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare s14 ∗ owns (c : Thread nD τ) arg15 fullShare s15 ∗ owns (c : Thread nD τ) arg16 fullShare s16
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (k0_pay11 x0 s14 s15 s16 x9 x10) ∗ owns (c : Thread nD τ) arg14 fullShare s14 ∗ owns (c : Thread nD τ) arg15 fullShare s15 ∗ owns (c : Thread nD τ) arg16 fullShare s16) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  simp only [k0_part3_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, ⟨%fs2, %hfs2, HS2⟩, Hk⟩
  subst hf0; subst hf1; subst hf2; subst hf3; subst hf4; subst hf5; subst hf6; subst hf7; subst hf8; subst hf9; subst hf10; subst hfs0; subst hfs1; subst hfs2
  sl_exec (disch := first | sl_exact hc0)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr
    swap; · iexact H11
    ipureintro; refine (View.read_writes_full _ _ inb_S1024x8x32_S1024x8x32_0_0_0 _ _).trans ?_
    unfold body_B.sl.r; congr 1 <;> exact View.readAt_full _ _ _
  isplitl [HS0]
  · iexists _; isplitr; · ipureintro; rfl
    iexact HS0
  isplitl [HS1]
  · iexists _; isplitr; · ipureintro; rfl
    iexact HS1
  · iexists _; isplitr; · ipureintro; rfl
    iexact HS2

end Cert.KernelIdeal

end
-- ==== Proof.Data.lean ====
module

public import proofs.«01_k».proof.Proof.Body

@[expose] public section

set_option maxRecDepth 16384

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch buffers and the staging buffers -/

/-- The three scratch buffers. -/
abbrev scP : Memref sig .tc .vmem S39x45 .f32 := Memref.whole cc0_scratch0
abbrev scB : Memref sig .tc .vmem S1x45 .f32 := Memref.whole cc0_scratch1
abbrev scG : Memref sig .tc .vmem S45x32 .f32 := Memref.whole cc0_scratch2

/-- The staging buffer of window 0 at point `t`. -/
abbrev stg0 (t : Fin cfg0.N) : Memref sig .tc .vmem S1024x8x39 .f32 := win0_0.stage (cfg0.slots t 0)
/-- The staging buffer of window 1 at point `t`. -/
abbrev stg1 (t : Fin cfg0.N) : Memref sig .tc .vmem S10x2x32 .f32 := win0_1.stage (cfg0.slots t 1)
/-- The staging buffer of window 2 at point `t`. -/
abbrev stg2 (t : Fin cfg0.N) : Memref sig .tc .vmem S16x2x32 .f32 := win0_2.stage (cfg0.slots t 2)
/-- The staging buffer of window 3 at point `t`. -/
abbrev stg3 (t : Fin cfg0.N) : Memref sig .tc .vmem S13x13 .f32 := win0_3.stage (cfg0.slots t 3)
/-- The staging buffer of window 4 at point `t`. -/
abbrev stg4 (t : Fin cfg0.N) : Memref sig .tc .vmem S13 .f32 := win0_4.stage (cfg0.slots t 4)
/-- The staging buffer of window 5 at point `t`. -/
abbrev stg5 (t : Fin cfg0.N) : Memref sig .tc .vmem S13x13 .f32 := win0_5.stage (cfg0.slots t 5)
/-- The staging buffer of window 6 at point `t`. -/
abbrev stg6 (t : Fin cfg0.N) : Memref sig .tc .vmem S13 .f32 := win0_6.stage (cfg0.slots t 6)
/-- The staging buffer of window 7 at point `t`. -/
abbrev stg7 (t : Fin cfg0.N) : Memref sig .tc .vmem S845x32 .f32 := win0_7.stage (cfg0.slots t 7)
/-- The staging buffer of window 8 at point `t`. -/
abbrev stg8 (t : Fin cfg0.N) : Memref sig .tc .vmem S32 .f32 := win0_8.stage (cfg0.slots t 8)
/-- The staging buffer of window 9 at point `t`. -/
abbrev stg9 (t : Fin cfg0.N) : Memref sig .tc .vmem S32x32 .f32 := win0_9.stage (cfg0.slots t 9)
/-- The staging buffer of window 10 at point `t`. -/
abbrev stg10 (t : Fin cfg0.N) : Memref sig .tc .vmem S32 .f32 := win0_10.stage (cfg0.slots t 10)
/-- The staging buffer of window 11 at point `t`. -/
abbrev stg11 (t : Fin cfg0.N) : Memref sig .tc .vmem S1024x8x32 .f32 := win0_11.stage (cfg0.slots t 11)
/-- Window 1's block at point `t`: the whole array. -/
def blk1 (c : Dev nD) (t : Fin cfg0.N) : Vec F S10x2x32 .f32 := iblk m c 1 t
/-- Window 2's block at point `t`: the whole array. -/
def blk2 (c : Dev nD) (t : Fin cfg0.N) : Vec F S16x2x32 .f32 := iblk m c 2 t
/-- Window 3's block at point `t`: the whole array. -/
def blk3 (c : Dev nD) (t : Fin cfg0.N) : Vec F S13x13 .f32 := iblk m c 3 t
/-- Window 4's block at point `t`: the whole array. -/
def blk4 (c : Dev nD) (t : Fin cfg0.N) : Vec F S13 .f32 := iblk m c 4 t
/-- Window 5's block at point `t`: the whole array. -/
def blk5 (c : Dev nD) (t : Fin cfg0.N) : Vec F S13x13 .f32 := iblk m c 5 t
/-- Window 6's block at point `t`: the whole array. -/
def blk6 (c : Dev nD) (t : Fin cfg0.N) : Vec F S13 .f32 := iblk m c 6 t
/-- Window 7's block at point `t`: the whole array. -/
def blk7 (c : Dev nD) (t : Fin cfg0.N) : Vec F S845x32 .f32 := iblk m c 7 t
/-- Window 8's block at point `t`: the whole array. -/
def blk8 (c : Dev nD) (t : Fin cfg0.N) : Vec F S32 .f32 := iblk m c 8 t
/-- Window 9's block at point `t`: the whole array. -/
def blk9 (c : Dev nD) (t : Fin cfg0.N) : Vec F S32x32 .f32 := iblk m c 9 t
/-- Window 10's block at point `t`: the whole array. -/
def blk10 (c : Dev nD) (t : Fin cfg0.N) : Vec F S32 .f32 := iblk m c 10 t

/-- What the first point leaves in the three scratch buffers. -/
def sP (c : Dev nD) : Vec F S39x45 .f32 := valP (blk1 m c t0_0) (blk2 m c t0_0) (blk3 m c t0_0) (blk7 m c t0_0)
def sB (c : Dev nD) : Vec F S1x45 .f32 := valB (blk1 m c t0_0) (blk2 m c t0_0) (blk4 m c t0_0) (blk6 m c t0_0) (blk7 m c t0_0) (blk8 m c t0_0)
def sG (c : Dev nD) : Vec F S45x32 .f32 := valG (blk5 m c t0_0) (blk7 m c t0_0)

/-- `x`'s staging buffer at point `t`: the part of the block inside the array, and `d` on the rows past its end. -/
def xFill (c : Dev nD) (t : Fin cfg0.N) (d : Vec F S1024x8x39 .f32) : Vec F S1024x8x39 .f32 :=
  win0_0.fill (grid0.coords t) d (iblk m c 0 t)
/-- The block's result when `x`'s staging buffer holds `X`. -/
def outV (c : Dev nD) (t : Fin cfg0.N) (X : Vec F S1024x8x39 .f32) : Vec F S1024x8x32 .f32 :=
  k0_pay11 X (sP m c) (sB m c) (sG m c) (blk9 m c t) (blk10 m c t)

/-! ## The proof data -/

/-- The invariant before point `n`: at the first point the scratch buffers hold anything; after it they hold the combined
    weights. The generator register is at some state throughout. -/
def PhiS (c : Dev nD) : ℕ → sProp 𝕄
  | 0 => Pipeline.ΦA spec0 c
  | _ + 1 => iprop((owns (c : Thread nD τ) scP fullShare (sP m c) ∗ owns (c : Thread nD τ) scB fullShare (sB m c) ∗ owns (c : Thread nD τ) scG fullShare (sG m c)) ∗ (∃ r, prngReg c r))

theorem PhiS_pos (c : Dev nD) (n : ℕ) (h : n ≠ 0) :
    PhiS m c n = iprop((owns (c : Thread nD τ) scP fullShare (sP m c) ∗ owns (c : Thread nD τ) scB fullShare (sB m c) ∗ owns (c : Thread nD τ) scG fullShare (sG m c)) ∗ (∃ r, prngReg c r)) := by
  cases n with
  | zero => exact absurd rfl h
  | succ n => rfl

theorem PhiA_eq (c : Dev nD) :
    (Pipeline.ΦA spec0 c : sProp 𝕄)
      = iprop(((∃ d, owns (c : Thread nD τ) scP fullShare d) ∗ (∃ d, owns (c : Thread nD τ) scB fullShare d) ∗ (∃ d, owns (c : Thread nD τ) scG fullShare d)) ∗ (∃ r, prngReg c r)) := by
  unfold Pipeline.ΦA; rw [scopedRest0_eq]; simp only [scP, scB, scG, owns_whole]; try rfl

/-- The proof data on device `c`: the arrays as the region finds them; after the body each input's buffer at its block
    (`x`'s: zero past the array's end) and the output's at the block's result; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => xFill m c t (fun _ => Scalar.ofBits .f32 0#32)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outV m c t (xFill m c t (fun _ => Scalar.ofBits .f32 0#32))
  Φ t := PhiS m c t.val
  q _ := fullShare
  owed _ := 0

theorem A_eq (c : Dev nD) (w : Fin cfg0.W) : (dats m 0 c).A w = V m c (Pipeline.arrRef spec0 w) := by
  dsimp only [dats]

theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_0 (c : Dev nD) (t : Fin cfg0.N) : (dats m 0 c).after 0 t = xFill m c t (fun _ => Scalar.ofBits .f32 0#32) := by dsimp only [dats]
theorem after_11 (c : Dev nD) (t : Fin cfg0.N) : (dats m 0 c).after 11 t = outV m c t (xFill m c t (fun _ => Scalar.ofBits .f32 0#32)) := by dsimp only [dats]
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_0 (c : Dev nD) (t : Fin cfg0.N) (d) : (dats m 0 c).before 0 t d = xFill m c t d := by
  unfold Dat.before; rw [if_pos (fetch0_0 t)]; rfl

/-! ## One point of the grid -/

/-- THE BODY AT POINT `t`, the rows of `x`'s buffer past the array's end at `d0`: the inputs are left as they were, the
    invariant moves on, and the output's buffer holds the block's result. -/
theorem point_run (c : Dev nD) (t : Fin cfg0.N) (d0 : Vec F S1024x8x39 .f32) (K : PUnit → sProp 𝕄) :
    iprop(PhiS m c t.val ∗ owns (c : Thread nD τ) (stg0 t) fullShare (xFill m c t d0) ∗ owns (c : Thread nD τ) (stg1 t) fullShare (iblk m c 1 t) ∗ owns (c : Thread nD τ) (stg2 t) fullShare (iblk m c 2 t) ∗ owns (c : Thread nD τ) (stg3 t) fullShare (iblk m c 3 t) ∗ owns (c : Thread nD τ) (stg4 t) fullShare (iblk m c 4 t) ∗ owns (c : Thread nD τ) (stg5 t) fullShare (iblk m c 5 t) ∗ owns (c : Thread nD τ) (stg6 t) fullShare (iblk m c 6 t) ∗ owns (c : Thread nD τ) (stg7 t) fullShare (iblk m c 7 t) ∗ owns (c : Thread nD τ) (stg8 t) fullShare (iblk m c 8 t) ∗ owns (c : Thread nD τ) (stg9 t) fullShare (iblk m c 9 t) ∗ owns (c : Thread nD τ) (stg10 t) fullShare (iblk m c 10 t) ∗ (∃ d, owns (c : Thread nD τ) (stg11 t) fullShare d)
        ∗ (iprop(PhiS m c (t.val + 1) ∗ owns (c : Thread nD τ) (stg0 t) fullShare (xFill m c t d0) ∗ owns (c : Thread nD τ) (stg1 t) fullShare (iblk m c 1 t) ∗ owns (c : Thread nD τ) (stg2 t) fullShare (iblk m c 2 t) ∗ owns (c : Thread nD τ) (stg3 t) fullShare (iblk m c 3 t) ∗ owns (c : Thread nD τ) (stg4 t) fullShare (iblk m c 4 t) ∗ owns (c : Thread nD τ) (stg5 t) fullShare (iblk m c 5 t) ∗ owns (c : Thread nD τ) (stg6 t) fullShare (iblk m c 6 t) ∗ owns (c : Thread nD τ) (stg7 t) fullShare (iblk m c 7 t) ∗ owns (c : Thread nD τ) (stg8 t) fullShare (iblk m c 8 t) ∗ owns (c : Thread nD τ) (stg9 t) fullShare (iblk m c 9 t) ∗ owns (c : Thread nD τ) (stg10 t) fullShare (iblk m c 10 t) ∗ owns (c : Thread nD τ) (stg11 t) fullShare (outV m c t (xFill m c t d0))) -∗ K ⟨⟩))
      ⊢ wp frame (wpE (defs₀ (F := F)) Variants.none c none) Set.univ (bodyAt0 t) K := by
  unfold bodyAt0
  rw [PhiS_pos m c (t.val + 1) (Nat.succ_ne_zero _)]
  by_cases hz : t.val = 0
  · obtain rfl : t = t0_0 := Fin.ext hz
    rw [show PhiS m c (t0_0 : Fin cfg0.N).val = Pipeline.ΦA spec0 c from rfl, PhiA_eq]
    iintro ⟨⟨⟨HS0, HS1, HS2⟩, Hg⟩, H0, H1, H2, H3, H4, H5, H6, H7, H8, H9, H10, H11, Hk⟩
    iapply (body_A c (grid0.coords t0_0) _ _ _ _ _ _ _ _ _ _ _ _ _ _ _ _ _ _ _ _ _ _ _ _ _ _ _ _ _ _ ((cond0_iff t0_0).mpr rfl) (xFill m c t0_0 d0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) Set.univ K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    iintro ⟨H0, H1, H2, H3, H4, H5, H6, H7, H8, H9, H10, H11, HS0, HS1, HS2⟩
    iapply Hk
    isplitl [HS0 HS1 HS2 Hg]
    · isplitl [HS0 HS1 HS2]
      · isplitl [HS0]; · iexact HS0
        isplitl [HS1]; · iexact HS1
        iexact HS2
      iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [PhiS_pos m c t.val hz]
    iintro ⟨⟨⟨HS0, HS1, HS2⟩, Hg⟩, H0, H1, H2, H3, H4, H5, H6, H7, H8, H9, H10, H11, Hk⟩
    iapply (body_B c (grid0.coords t) _ _ _ _ _ _ _ _ _ _ _ _ _ _ _ _ _ _ _ _ _ _ _ _ _ _ _ _ _ _ (fun h => hz ((cond0_iff t).mp h)) (xFill m c t d0) (iblk m c 1 t) (iblk m c 2 t) (iblk m c 3 t) (iblk m c 4 t) (iblk m c 5 t) (iblk m c 6 t) (iblk m c 7 t) (iblk m c 8 t) (iblk m c 9 t) (iblk m c 10 t) (sP m c) (sB m c) (sG m c) Set.univ K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    iintro ⟨H0, H1, H2, H3, H4, H5, H6, H7, H8, H9, H10, H11, HS0, HS1, HS2⟩
    iapply Hk
    isplitl [HS0 HS1 HS2 Hg]
    · isplitl [HS0 HS1 HS2]
      · isplitl [HS0]; · iexact HS0
        isplitl [HS1]; · iexact HS1
        iexact HS2
      iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t` is the body at the point's staging buffers. -/
theorem defs₀_row (t : Fin cfg0.N) :
    defs₀ (F := F) .tc cfg0.body (cfg0.bodyArgs t (cfg0.slots t)) = bodyAt0 t := by
  unfold defs₀; rw [Defs.onTc_tc]

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c cfg0.N from rfl,
    PhiS_pos m c cfg0.N (by rw [show cfg0.N = 7 from N_0]; omega), PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

end Cert.KernelIdeal

end
-- ==== Proof.FrameRun.lean ====
module

public import proofs.«01_k».proof.Proof.Data

@[expose] public section

set_option maxRecDepth 16384

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame says nothing of what the output's buffer holds. -/
def fgt : Fin cfg0.W → Bool := fun w => w == 11

set_option maxHeartbeats 4000000 in
/-- The body obligation with the output's contents left unstated. -/
theorem body_forget (c : Dev nD) : BodyObligationLoose (dats (F := F) m 0 c) (defs₀ (F := F)) Variants.none () Set.univ fgt := fun t => by
  rw [bigSep_W0, bigSep_W0, defs₀_row]
  rw [show (dats m 0 c).owesAt () t.succ = (dats m 0 c).owesAt () t.castSucc from rfl]
  rw [show (dats m 0 c).Φ t.castSucc = PhiS m c t.val from rfl, show (dats m 0 c).Φ t.succ = PhiS m c (t.val + 1) from rfl]
  change iprop(_ ∗ _ ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare d)) ⊢ wp frame (wpE (defs₀ (F := F)) Variants.none c none) Set.univ (bodyAt0 t) (fun _ =>
      iprop(_ ∗ _ ∗ (∃ d, owns (c : Thread nD τ) (stg0 t) fullShare (win0_0.fill (grid0.coords t) d (win0_0.cut (grid0.coords t) ((dats m 0 c).after 0 t))))
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ (∃ d, owns (c : Thread nD τ) (stg11 t) fullShare d)))
  simp only [before_0, before_1, before_2, before_3, before_4, before_5, before_6, before_7, before_8, before_9, before_10, after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (point_run m c t d0)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨HΦ, H0, H1, H2, H3, H4, H5, H6, H7, H8, H9, H10, H11⟩
  isplitl [HΦ]; · iexact HΦ
  isplitl [Ho]; · iexact Ho
  isplitl [H0]
  · iexists d0
    rw [show win0_0.cut (grid0.coords t) (xFill m c t (fun _ => Scalar.ofBits .f32 0#32)) = iblk m c 0 t from Window.cut_fill _ _ _ _]
    iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; iexact H11

set_option backward.isDefEq.respectTransparency.types false in
/-- The run with the output's contents left unstated. -/
theorem run_forget : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_track_forget (Q' := _) (hQ' := fun _ h => h) cfgs (dats m) (0 : Fin 1) launch0 defs₀ Variants.none fgt m ρ main
    (hbody := body_forget m) (hshare := fun c => (dats m 0 c).share_full fun _ => rfl) (howed := fun _ _ => rfl) (V := V m)
    (hmain := hmain m Variants.none) (hA := A_eq m) (hin := hin m) (hout := hout m)

/-- THE FRAME: the program runs, its arguments end as launched, and every semaphore ends at zero. -/
theorem frame_run : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      ((h.1 c).2 main_arg2 (Pipeline.mem_restRefs_of main_arg2 (by decide) (by decide))).trans (V_main_arg2 m c),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c)),
      (Pipeline.RDat.FramePost.arr_in h.1 c 7 rfl).trans ((A_eq m c 7).trans (V_main_arg7 m c)),
      (Pipeline.RDat.FramePost.arr_in h.1 c 8 rfl).trans ((A_eq m c 8).trans (V_main_arg8 m c)),
      (Pipeline.RDat.FramePost.arr_in h.1 c 9 rfl).trans ((A_eq m c 9).trans (V_main_arg9 m c)),
      (Pipeline.RDat.FramePost.arr_in h.1 c 10 rfl).trans ((A_eq m c 10).trans (V_main_arg10 m c))⟩, h.2⟩) (run_forget m ρ)

end Cert.KernelIdeal

end
-- ==== Proof.Head.lean ====
/- The mathematics of one row: the kernel's combined weights give the reference's hidden layer. Written over the extended
   reals, with no program in it. -/
module

public import Idealize.ShloMosaic.PureOps.Ideal.Laws
public import Idealize.ShloMosaic.Lib.ValueIdxCore

@[expose] public section

noncomputable section

namespace Cert.Head

open Idealize.ShloMosaic Idealize.ShloMosaic.ValueIdx

/-! ## Places -/

/-- Category `k` among the 39 columns of a row. -/
def disc (k : Fin 26) : Fin 39 := ⟨k.val, by omega⟩
/-- Number `i` among the 39 columns of a row. -/
def num (i : Fin 13) : Fin 39 := ⟨26 + i.val, by omega⟩
/-- Output feature `e` among the 45 columns of the combined product. -/
def lo (e : Fin 32) : Fin 45 := ⟨e.val, by omega⟩
/-- Hidden number `j` among the 45 columns of the combined product. -/
def hi (j : Fin 13) : Fin 45 := ⟨32 + j.val, by omega⟩
/-- The row of `W1o` that entry `c` of category `k`'s embedding meets. -/
def wE (k : Fin 26) (c : Fin 32) : Fin 845 := ⟨32 * k.val + c.val, by omega⟩
/-- The row of `W1o` that entry `l` of the numbers' embedding meets. -/
def wN (l : Fin 13) : Fin 845 := ⟨832 + l.val, by omega⟩

theorem sum39 (f : Fin 39 → EReal) : ∑ k, f k = ∑ k, f (disc k) + ∑ i, f (num i) :=
  Fin.sum_univ_add (a := 26) (b := 13) f
theorem sum45 (f : Fin 45 → EReal) : ∑ k, f k = ∑ e, f (lo e) + ∑ j, f (hi j) :=
  Fin.sum_univ_add (a := 32) (b := 13) f

/-- A sum over the 832 embedding entries, category by category. -/
theorem sum832 (f : Fin 832 → EReal) : ∑ n, f n = ∑ k : Fin 26, ∑ c : Fin 32, f ⟨32 * k.val + c.val, by omega⟩ := by
  rw [← Equiv.sum_comp (finProdFinEquiv (m := 26) (n := 32)) f, Fintype.sum_prod_type]
  refine Finset.sum_congr rfl fun k _ => Finset.sum_congr rfl fun c _ => congrArg f (Fin.ext ?_)
  simp [finProdFinEquiv, Nat.add_comm]

/-- A sum over the 845 rows of `W1o`: the embeddings' rows, category by category, then the numbers'. -/
theorem sum845 (f : Fin 845 → EReal) : ∑ n, f n = ∑ k, ∑ c, f (wE k c) + ∑ l, f (wN l) :=
  (Fin.sum_univ_add (a := 832) (b := 13) f).trans (congrArg (· + _) (sum832 fun n => f (Fin.castAdd 13 n)))

/-! ## The two sides of a row -/

/-- The two rows of every embedding table the programs read: of the bins, and of the first two categories. -/
def rows2 (a1 : FVec Ideal ⟨3, ![10, 2, 32]⟩ .f32) (a2 : FVec Ideal ⟨3, ![16, 1000, 32]⟩ .f32) (r : Fin 2) (k : Fin 26) (c : Fin 32) : EReal :=
  if h : k.val < 10 then a1 (ix3 ⟨k.val, h⟩ r c) else a2 (ix3 ⟨k.val - 10, by omega⟩ ⟨r.val, by omega⟩ c)

/-- `y` times its logistic. -/
def act (y : EReal) : EReal := y * Ideal.div 1 (1 + Ideal.exp (-y))

variable (X : Fin 39 → EReal) (E : Fin 2 → Fin 26 → Fin 32 → EReal) (W1n W2n : Fin 13 → Fin 13 → EReal) (b1n b2n : Fin 13 → EReal)
  (W1o : Fin 845 → Fin 32 → EReal) (b1o : Fin 32 → EReal) (P : Fin 39 → Fin 45 → EReal) (B : Fin 45 → EReal) (G : Fin 45 → Fin 32 → EReal)

/-- The reference's first layer on the numbers. -/
def hid (j : Fin 13) : EReal := ∑ i, X (num i) * W1n i j + b1n j
/-- The embedding the reference looks up for category `k`, whose word is 0 or 1. -/
def look (k : Fin 26) (c : Fin 32) : EReal := if X (disc k) = 1 then E 1 k c else E 0 k c
/-- The reference's hidden layer before the maximum with zero. -/
def refHead (e : Fin 32) : EReal :=
  (∑ k, ∑ c, look X E k c * W1o (wE k c) e
    + ∑ l, (∑ j, act (hid X W1n b1n j) * W2n j l + b2n l) * W1o (wN l) e) + b1o e

/-- The kernel's combined product plus bias. -/
def comb (j : Fin 45) : EReal := ∑ k, X k * P k j + B j
/-- The kernel's hidden layer before the maximum with zero. -/
def kerHead (e : Fin 32) : EReal := comb X P B (lo e) + ∑ j, act (comb X P B j) * G j e

/-- The output of a row whose hidden layer is `h`. -/
def rowOut (h : Fin 32 → EReal) (W2o : Fin 32 → Fin 32 → EReal) (b2o : Fin 32 → EReal) (e : Fin 32) : EReal :=
  ∑ k, max (h k) 0 * W2o k e + b2o e

/-- The entries of the kernel's combined weights. -/
structure Combined : Prop where
  disc_lo : ∀ k e, P (disc k) (lo e) = ∑ c, (E 1 k c - E 0 k c) * W1o (wE k c) e
  num_lo : ∀ i e, P (num i) (lo e) = 0
  disc_hi : ∀ k j, P (disc k) (hi j) = 0
  num_hi : ∀ i j, P (num i) (hi j) = W1n i j
  bias_lo : ∀ e, B (lo e) = (∑ k, ∑ c, E 0 k c * W1o (wE k c) e + b1o e) + ∑ l, b2n l * W1o (wN l) e
  bias_hi : ∀ j, B (hi j) = b1n j
  gate_lo : ∀ i e, G (lo i) e = 0
  gate_hi : ∀ j e, G (hi j) e = ∑ l, W2n j l * W1o (wN l) e

/-! ## Finite sums -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite value's logistic product is finite. -/
theorem act_coe (y : ℝ) : ∃ s : ℝ, act (y : EReal) = s := by
  refine ⟨y * (1 + Real.exp (-y))⁻¹, ?_⟩
  have := Ideal.logistic_coe (r := y)
  unfold Ideal.logistic at this
  rw [act, this, EReal.coe_mul]

/-- A real factor distributes over a sum one of whose terms is real. -/
theorem add_mul_coe (p : EReal) (a w : ℝ) : (p + a) * (w : EReal) = p * w + (a : EReal) * w := by
  induction p with
  | coe r => rw [← EReal.coe_add, ← EReal.coe_mul, ← EReal.coe_mul, ← EReal.coe_mul, ← EReal.coe_add, add_mul]
  | top =>
    rw [EReal.top_add_coe]
    rcases lt_trichotomy w 0 with h | h | h
    · rw [EReal.top_mul_coe_of_neg h, ← EReal.coe_mul, EReal.bot_add]
    · rw [h, EReal.coe_zero, mul_zero, mul_zero, add_zero]
    · rw [EReal.top_mul_coe_of_pos h, ← EReal.coe_mul, EReal.top_add_coe]
  | bot =>
    rw [EReal.bot_add]
    rcases lt_trichotomy w 0 with h | h | h
    · rw [EReal.bot_mul_coe_of_neg h, ← EReal.coe_mul, EReal.top_add_coe]
    · rw [h, EReal.coe_zero, mul_zero, mul_zero, add_zero]
    · rw [EReal.bot_mul_coe_of_pos h, ← EReal.coe_mul, EReal.bot_add]

/-- The difference of two embedding entries times a weight, plus the second times the weight, is the first times it. -/
theorem diff_mul_add (y : EReal) (a w : ℝ) : (y - a) * (w : EReal) + (a : EReal) * w = y * w := by
  have e : (y - (a : EReal)) + a = y := by
    induction y with
    | coe r => rw [← EReal.coe_sub, ← EReal.coe_add, sub_add_cancel]
    | top => rfl
    | bot => rfl
  rw [← add_mul_coe, e]

/-- The numbers' two layers over the reals: the second layer's product with `v` taken first or last. -/
theorem real_nums (s v : Fin 13 → ℝ) (W2n : Fin 13 → Fin 13 → ℝ) : ∑ j, s j * ∑ l, W2n j l * v l = ∑ l, (∑ j, s j * W2n j l) * v l := by
  simp only [Finset.mul_sum, Finset.sum_mul]
  rw [Finset.sum_comm]
  simp only [mul_assoc]

/-- THE ROW: where a row's categories are 0 or 1, and its numbers, row 0 of every embedding table and the weights met in
    another order are finite, the kernel's hidden layer is the reference's. -/
theorem head_eq (h : Combined E W1n W2n b1n b2n W1o b1o P B G)
    (h01 : ∀ k, X (disc k) = 0 ∨ X (disc k) = 1) (fX : ∀ i, ∃ r : ℝ, X (num i) = r) (fE : ∀ k c, ∃ r : ℝ, E 0 k c = r)
    (fW1n : ∀ i j, ∃ r : ℝ, W1n i j = r) (fW2n : ∀ i j, ∃ r : ℝ, W2n i j = r) (fb1n : ∀ j, ∃ r : ℝ, b1n j = r)
    (fW1o : ∀ n e, ∃ r : ℝ, W1o n e = r) (e : Fin 32) :
    kerHead X P B G e = refHead X E W1n W2n b1n b2n W1o b1o e := by
  choose e' hE using fE
  choose w1 hW1n using fW1n
  choose w2 hW2n using fW2n
  choose c1 hb1n using fb1n
  choose w hW1o using fW1o
  choose xn hX using fX
  -- the hidden numbers agree, and are finite
  have hcomb : ∀ j, comb X P B (hi j) = hid X W1n b1n j := fun j => by
    unfold comb hid
    rw [sum39, h.bias_hi]
    simp only [h.disc_hi, h.num_hi, mul_zero, Finset.sum_const_zero, zero_add]
  have fhid : ∀ j, ∃ r : ℝ, act (hid X W1n b1n j) = r := fun j => by
    have : hid X W1n b1n j = ((∑ i, xn i * w1 i j + c1 j : ℝ) : EReal) := by
      unfold hid
      simp only [hX, hW1n, hb1n, ← EReal.coe_mul, ← coe_sum, ← EReal.coe_add]
    rw [this]; exact act_coe _
  choose s hs using fhid
  -- a category's word times the differences of its two rows, plus its row 0, is its looked-up row
  have hlook : ∀ k, X (disc k) * (∑ c, (E 1 k c - E 0 k c) * W1o (wE k c) e) + ∑ c, E 0 k c * W1o (wE k c) e
      = ∑ c, look X E k c * W1o (wE k c) e := fun k => by
    unfold look
    rcases h01 k with h0 | h1
    · rw [h0, zero_mul, zero_add]
      exact Finset.sum_congr rfl fun c _ => by rw [if_neg zero_ne_one]
    · rw [h1, one_mul, ← Finset.sum_add_distrib]
      exact Finset.sum_congr rfl fun c _ => by rw [if_pos rfl, hE, hW1o, diff_mul_add]
  -- the numbers' second layer, its bias apart
  have hnum : ∑ l, (∑ j, act (hid X W1n b1n j) * W2n j l + b2n l) * W1o (wN l) e
      = ∑ j, act (hid X W1n b1n j) * ∑ l, W2n j l * W1o (wN l) e + ∑ l, b2n l * W1o (wN l) e := by
    have hl : ∀ l, (∑ j, act (hid X W1n b1n j) * W2n j l + b2n l) * W1o (wN l) e
        = (((∑ j, s j * w2 j l) * w (wN l) e : ℝ) : EReal) + b2n l * W1o (wN l) e := fun l => by
      simp only [hs, hW2n, hW1o, ← EReal.coe_mul, ← coe_sum]
      rw [add_comm, add_mul_coe, add_comm, ← EReal.coe_mul]
    have hj : ∑ j, act (hid X W1n b1n j) * ∑ l, W2n j l * W1o (wN l) e = ((∑ j, s j * ∑ l, w2 j l * w (wN l) e : ℝ) : EReal) := by
      simp only [hs, hW2n, hW1o, ← EReal.coe_mul, ← coe_sum]
    rw [hj, real_nums, coe_sum, ← Finset.sum_add_distrib]
    exact Finset.sum_congr rfl fun l _ => hl l
  have hK : kerHead X P B G e
      = ∑ k, (X (disc k) * (∑ c, (E 1 k c - E 0 k c) * W1o (wE k c) e) + ∑ c, E 0 k c * W1o (wE k c) e)
        + (∑ j, act (hid X W1n b1n j) * ∑ l, W2n j l * W1o (wN l) e + ∑ l, b2n l * W1o (wN l) e) + b1o e := by
    unfold kerHead
    rw [sum45]
    simp only [hcomb, h.gate_lo, h.gate_hi, mul_zero, Finset.sum_const_zero, zero_add]
    unfold comb
    rw [sum39, h.bias_lo]
    simp only [h.disc_lo, h.num_lo, mul_zero, Finset.sum_const_zero, add_zero, Finset.sum_add_distrib]
    abel
  rw [hK, Finset.sum_congr rfl fun k _ => hlook k, ← hnum]
  rfl

end Cert.Head

end
-- ==== Proof.RowRead.lean ====
/- The body's result read at an index: a row of the block depends on the same row of `x` alone, and is the kernel's
   row (`Proof/Head.lean`). -/
module

public import proofs.«01_k».proof.Proof.Gen.KernelIdeal.Skeleton
public import proofs.«01_k».proof.Proof.Head
public import Idealize.ShloMosaic.Lib.MatmulPlain
public import Idealize.ShloMosaic.Lib.Pipeline.Value
public import Idealize.ShloMosaic.Lib.Pipeline.ValueKit.Tiles
public import Idealize.ShloMosaic.Lib.ValueLayout
public import Idealize.ShloMosaic.Lib.IdealHost

@[expose] public section

set_option maxRecDepth 16384

noncomputable section

namespace Cert.KernelIdeal

open Gen Idealize.ShloMosaic Idealize.ShloMosaic.ValueIdx Cert.Head

/-- A plain product with a zero accumulator, read at an index. -/
theorem mm_apply {M K N : ℕ} (d : DotDims ⟨2, ![M, K]⟩ ⟨2, ![K, N]⟩ ⟨2, ![M, N]⟩) (hd : d = DotDims.plain M K N)
    (lhs : FVec Ideal ⟨2, ![M, K]⟩ .f32) (rhs : FVec Ideal ⟨2, ![K, N]⟩ .f32) (r : Fin M) (c : Fin N) :
    matmul d none lhs rhs (constant ⟨2, ![M, N]⟩ .f32 0x00000000#32) (ix2 r c) = ∑ k : Fin K, lhs (ix2 r k) * rhs (ix2 k c) := by
  subst hd
  refine (Ideal.matmul_plain_apply none lhs rhs _ r c).trans ?_
  show Ideal.ofBits .f32 0x00000000#32 + _ = _
  rw [Ideal.ofBits_zero_f32, zero_add]

/-- A row vector laid under every row, read at an index. -/
theorem row_apply {M N : ℕ} (v : FVec Ideal ⟨2, ![1, N]⟩ .f32) (h : (⟨2, ![1, N]⟩ : Shape).Broadcasts ⟨2, ![M, N]⟩) (r : Fin M) (c : Fin N) :
    broadcastTo ⟨2, ![M, N]⟩ v h (ix2 r c) = v (ix2 0 c) := by
  refine broadcastTo_apply v h _ _ fun a => ?_
  match a with
  | ⟨0, _⟩ => simp
  | ⟨1, _⟩ =>
    show c.val = if N = 1 then 0 else c.val
    split
    · have := c.isLt; omega
    · rfl

/-- Row `j` of the block's column `i`, among its 8192 rows. -/
def flat (i : Fin 1024) (j : Fin 8) : Fin 8192 := ⟨8 * i.val + j.val, by omega⟩

/-- The combined product plus bias, at row `(i, j)`. -/
theorem comb_apply (X : FVec Ideal S1024x8x39 .f32) (P : FVec Ideal S39x45 .f32) (B : FVec Ideal S1x45 .f32) (i : Fin 1024) (j : Fin 8) (n : Fin 45) :
    addf (F := Ideal) (matmul dot_S8192x39_S39x45_S8192x45_1_0_0_1_n_n none (shapeCast S8192x39 X shapeCasts_S1024x8x39_S8192x39) P
        (constant S8192x45 .f32 0x00000000#32)) (broadcastTo S8192x45 B broadcasts_S1x45_S8192x45) (ix2 (flat i j) n)
      = comb (fun k => X (ix3 i j k)) (fun k n => P (ix2 k n)) (fun n => B (ix2 0 n)) n := by
  refine congrArg₂ (· + ·) ((mm_apply _ rfl _ _ _ _).trans (Finset.sum_congr rfl fun k _ => congrArg (· * _) ?_)) (row_apply _ _ _ _)
  refine shapeCast_apply X _ _ (ix3 i j k) ?_
  rw [Shape.rowMajor_val_three, Shape.rowMajor_val_two]
  show (i.val * 8 + j.val) * 39 + k.val = (8 * i.val + j.val) * 39 + k.val
  omega

/-- The gated sum of a combined row `V`, at row `r`. -/
theorem gate_apply (V : FVec Ideal S8192x45 .f32) (G : FVec Ideal S45x32 .f32) (r : Fin 8192) (e : Fin 32) :
    addf (extractStridedSlice S8192x32 ![0, 0] V slices_S8192x45_o0_0_S8192x32)
        (matmul dot_S8192x45_S45x32_S8192x32_1_0_0_1_n_n none
          (mulf V (divf (broadcast S8192x45 (FloatOps.ofBits (F := Ideal) .f32 0x3F800000#32))
            (addf (broadcast S8192x45 (FloatOps.ofBits (F := Ideal) .f32 0x3F800000#32))
              (exp (subf (broadcast S8192x45 (FloatOps.ofBits (F := Ideal) .f32 0x00000000#32)) V)))))
          G (constant S8192x32 .f32 0x00000000#32)) (ix2 r e)
      = V (ix2 r (lo e)) + ∑ n, act (V (ix2 r n)) * G (ix2 n e) := by
  rw [addf_apply]
  refine congrArg₂ (· + ·) (congrArg V ?_) ((mm_apply dot_S8192x45_S45x32_S8192x32_1_0_0_1_n_n rfl _ G r e).trans
    (Finset.sum_congr rfl fun n _ => congrArg (· * _) ?_))
  · funext a
    match a with
    | ⟨0, _⟩ => exact Fin.ext (Nat.zero_add _)
    | ⟨1, _⟩ => exact Fin.ext (Nat.zero_add _)
  · unfold act
    rw [mulf_apply]
    refine congrArg (V (ix2 r n) * ·) (congrArg₂ Ideal.div Ideal.ofBits_one_f32 (congrArg₂ (· + ·) Ideal.ofBits_one_f32 (congrArg Ideal.exp ?_)))
    exact (congrArg (· - V (ix2 r n)) Ideal.ofBits_zero_f32).trans (zero_sub _)

/-- THE BODY'S RESULT at row `(i, j)`, feature `e`. -/
theorem pay11_apply (X : FVec Ideal S1024x8x39 .f32) (P : FVec Ideal S39x45 .f32) (B : FVec Ideal S1x45 .f32) (G : FVec Ideal S45x32 .f32)
    (W : FVec Ideal S32x32 .f32) (b : FVec Ideal S32 .f32) (i : Fin 1024) (j : Fin 8) (e : Fin 32) :
    k0_pay11 (F := Ideal) X P B G W b (ix3 i j e)
      = rowOut (kerHead (fun k => X (ix3 i j k)) (fun k n => P (ix2 k n)) (fun n => B (ix2 0 n)) fun n e => G (ix2 n e))
          (fun k e => W (ix2 k e)) (fun e => b (ix1 e)) e := by
  unfold k0_pay11
  refine (shapeCast_apply _ _ (ix3 i j e) (ix2 (flat i j) e) ?_).trans ?_
  · rw [Shape.rowMajor_val_three, Shape.rowMajor_val_two]
    show (8 * i.val + j.val) * 32 + e.val = (i.val * 8 + j.val) * 32 + e.val
    omega
  unfold rowOut
  refine congrArg₂ (· + ·) ((mm_apply _ rfl _ _ _ _).trans (Finset.sum_congr rfl fun k _ => congrArg (· * _) ?_))
    ((row_apply _ _ _ _).trans (shapeCast_a_1a_apply _ _ _ _))
  refine congrArg₂ max ?_ Ideal.ofBits_zero_f32
  refine (gate_apply _ G (flat i j) k).trans ?_
  unfold kerHead
  rw [comb_apply X P B i j (lo k)]
  exact congrArg (_ + ·) (Finset.sum_congr rfl fun n _ => by rw [comb_apply X P B i j n])

end Cert.KernelIdeal

end
-- ==== Proof.Weights.lean ====
/- The combined weights the first point leaves in the scratch buffers, read at an index: they are the combined weights of
   `Proof/Head.lean`, for the two rows of every embedding table. -/
module

public import proofs.«01_k».proof.Proof.Body
public import proofs.«01_k».proof.Proof.RowRead

@[expose] public section

set_option maxRecDepth 16384

noncomputable section

namespace Cert.KernelIdeal

open Gen Idealize.ShloMosaic Idealize.ShloMosaic.ValueIdx Cert.Head

/-! ## The mask -/

/-- The word the kernel compares with the category at column `n`: the floor of `n / 32`, as printed. -/
def quotWord (n : Fin 832) : BitVec 32 :=
  let a := BitVec.ofNat 32 n.val
  Scalar.select (IntOp.andi (IntOp.cmpi .ne (((IntOp.cmpi .sgt a 0#32).setWidth 32) - ((IntOp.cmpi .slt a 0#32).setWidth 32))
      (Scalar.subi (Scalar.extui (Scalar.cmpi .sgt 32#32 0#32)) (Scalar.extui (Scalar.cmpi .slt 32#32 0#32))))
      (IntOp.cmpi .ne (IntOp.remsi .vector a 32#32) 0#32))
    (IntOp.divsi .vector a 32#32 - 1#32) (IntOp.divsi .vector a 32#32)

theorem quotWord_eq : ∀ n : Fin 832, quotWord n = BitVec.ofNat 32 (n.val / 32) := by decide +kernel

/-- The mask at category `k`, column `n`. -/
abbrev mask : FVec Ideal S26x832 .f32 :=
  k0_pay6 (F := Ideal) (iota .tc S26x832 32 [0] iota_S26x832_d0_w32) k0_pay3 k0_pay4 k0_pay5

/-- It is one on the 32 columns of its category, and zero elsewhere. -/
theorem mask_apply (k k' : Fin 26) (c : Fin 32) :
    mask (ix2 k ⟨32 * k'.val + c.val, by omega⟩) = if k' = k then 1 else 0 := by
  have h : mask (ix2 k ⟨32 * k'.val + c.val, by omega⟩)
      = (((IntOp.cmpi .eq (quotWord ⟨32 * k'.val + c.val, by omega⟩) (BitVec.ofNat 32 k.val)).setWidth 32).toInt : ℝ) := by
    unfold quotWord
    show ((((IntOp.cmpi .eq _ (iota .tc S26x832 32 [0] iota_S26x832_d0_w32 (ix2 k ⟨32 * k'.val + c.val, by omega⟩))).setWidth 32).toInt : ℝ) : EReal) = _
    rw [show iota .tc S26x832 32 [0] iota_S26x832_d0_w32 (ix2 k ⟨32 * k'.val + c.val, by omega⟩) = BitVec.ofNat 32 k.val from
      congrArg (BitVec.ofNat 32) (Nat.zero_add _)]
    have hi : iota .tc S26x832 32 [1] iota_S26x832_d1_w32 (ix2 k ⟨32 * k'.val + c.val, by omega⟩) = BitVec.ofNat 32 (32 * k'.val + c.val) :=
      congrArg (BitVec.ofNat 32) (Nat.zero_add _)
    rw [← hi]
    rfl
  rw [h, quotWord_eq]
  have hd : (32 * k'.val + c.val) / 32 = k'.val := by omega
  show (((IntOp.cmpi .eq (BitVec.ofNat 32 ((32 * k'.val + c.val) / 32)) (BitVec.ofNat 32 k.val)).setWidth 32).toInt : ℝ) = (_ : EReal)
  rw [hd]
  have key : ∀ k' k : Fin 26, ((IntOp.cmpi .eq (BitVec.ofNat 32 k'.val) (BitVec.ofNat 32 k.val)).setWidth 32).toInt = if k' = k then 1 else 0 := by
    decide +kernel
  rw [key]
  split <;> simp

/-- A product under the mask with 26 copies of a table side by side: row `k` meets the rows of its own category only. -/
theorem masked_apply (T : FVec Ideal S26x32 .f32) (V : FVec Ideal S26x832 .f32)
    (hV : ∀ (k k' : Fin 26) (c : Fin 32), V (ix2 k ⟨32 * k'.val + c.val, by omega⟩) = T (ix2 k c))
    (w : FVec Ideal S832x32 .f32) (k : Fin 26) (e : Fin 32) :
    matmul dot_S26x832_S832x32_S26x32_1_0_0_1_n_n none (mulf mask V) w (constant S26x32 .f32 0x00000000#32) (ix2 k e)
      = ∑ c : Fin 32, T (ix2 k c) * w (ix2 ⟨32 * k.val + c.val, by omega⟩ e) := by
  refine (mm_apply dot_S26x832_S832x32_S26x32_1_0_0_1_n_n rfl _ w k e).trans ((sum832 _).trans ?_)
  refine (Finset.sum_eq_single k (fun k' _ hk => Finset.sum_eq_zero fun c _ => ?_) (fun h => absurd (Finset.mem_univ k) h)).trans
    (Finset.sum_congr rfl fun c _ => ?_)
  · rw [mulf_apply, mask_apply, if_neg hk]
    show (0 * _) * _ = (0 : EReal)
    rw [zero_mul, zero_mul]
  · rw [mulf_apply, mask_apply, if_pos rfl, hV]
    show (1 * _) * _ = (_ : EReal)
    rw [one_mul]

/-- 26 copies of a table side by side, read at an index. -/
theorem copies_apply (T : FVec Ideal S26x32 .f32)
    (h : Shape.Concatenates ((List.replicate 26 (⟨S26x32, T⟩ : (s : Shape) × (s.Idx → Ideal .f32))).map (·.1)) S26x832 1)
    (k k' : Fin 26) (c : Fin 32) :
    concatenate S26x832 1 (List.replicate 26 (⟨S26x32, T⟩ : (s : Shape) × (s.Idx → Ideal .f32))) h (ix2 k ⟨32 * k'.val + c.val, by omega⟩)
      = T (ix2 k c) := by
  refine concatenate_replicate_apply (1 : Fin S26x832.rank) 26 T h rfl _ (ix2 k c) ?_ fun b hb => ?_
  · show c.val = (32 * k'.val + c.val) % 32
    omega
  · match b with
    | ⟨0, _⟩ => rfl
    | ⟨1, _⟩ => exact absurd rfl hb

/-! ## Two pieces one after the other -/

theorem beside_left {M A B C : ℕ} (x : FVec Ideal ⟨2, ![M, A]⟩ .f32) (y : FVec Ideal ⟨2, ![M, B]⟩ .f32)
    (h : Shape.Concatenates [⟨2, ![M, A]⟩, ⟨2, ![M, B]⟩] ⟨2, ![M, C]⟩ 1) (r : Fin M) (c : Fin A) (c' : Fin C) (hc : c'.val = c.val) :
    concatenate ⟨2, ![M, C]⟩ 1 [⟨⟨2, ![M, A]⟩, x⟩, ⟨⟨2, ![M, B]⟩, y⟩] h (ix2 r c') = x (ix2 r c) := by
  refine concatenate_pair_apply_left _ x y h _ rfl (ix2 r c) fun b => ?_
  match b with
  | ⟨0, _⟩ => rfl
  | ⟨1, _⟩ => exact hc.symm

theorem beside_right {M A B C : ℕ} (x : FVec Ideal ⟨2, ![M, A]⟩ .f32) (y : FVec Ideal ⟨2, ![M, B]⟩ .f32)
    (h : Shape.Concatenates [⟨2, ![M, A]⟩, ⟨2, ![M, B]⟩] ⟨2, ![M, C]⟩ 1) (r : Fin M) (c : Fin B) (c' : Fin C) (hc : c'.val = A + c.val) :
    concatenate ⟨2, ![M, C]⟩ 1 [⟨⟨2, ![M, A]⟩, x⟩, ⟨⟨2, ![M, B]⟩, y⟩] h (ix2 r c') = y (ix2 r c) := by
  refine concatenate_pair_apply_right _ x y h _ rfl rfl (ix2 r c) (fun b hb => ?_) ?_
  · match b with
    | ⟨0, _⟩ => rfl
    | ⟨1, _⟩ => exact absurd rfl hb
  · show c.val + A = c'.val
    omega

theorem below_left {A B C N : ℕ} (x : FVec Ideal ⟨2, ![A, N]⟩ .f32) (y : FVec Ideal ⟨2, ![B, N]⟩ .f32)
    (h : Shape.Concatenates [⟨2, ![A, N]⟩, ⟨2, ![B, N]⟩] ⟨2, ![C, N]⟩ 0) (r : Fin A) (r' : Fin C) (c : Fin N) (hr : r'.val = r.val) :
    concatenate ⟨2, ![C, N]⟩ 0 [⟨⟨2, ![A, N]⟩, x⟩, ⟨⟨2, ![B, N]⟩, y⟩] h (ix2 r' c) = x (ix2 r c) := by
  refine concatenate_pair_apply_left _ x y h _ rfl (ix2 r c) fun b => ?_
  match b with
  | ⟨0, _⟩ => exact hr.symm
  | ⟨1, _⟩ => rfl

theorem below_right {A B C N : ℕ} (x : FVec Ideal ⟨2, ![A, N]⟩ .f32) (y : FVec Ideal ⟨2, ![B, N]⟩ .f32)
    (h : Shape.Concatenates [⟨2, ![A, N]⟩, ⟨2, ![B, N]⟩] ⟨2, ![C, N]⟩ 0) (r : Fin B) (r' : Fin C) (c : Fin N) (hr : r'.val = A + r.val) :
    concatenate ⟨2, ![C, N]⟩ 0 [⟨⟨2, ![A, N]⟩, x⟩, ⟨⟨2, ![B, N]⟩, y⟩] h (ix2 r' c) = y (ix2 r c) := by
  refine concatenate_pair_apply_right _ x y h _ rfl rfl (ix2 r c) (fun b hb => ?_) ?_
  · match b with
    | ⟨0, _⟩ => exact absurd rfl hb
    | ⟨1, _⟩ => rfl
  · show r.val + A = r'.val
    omega

/-! ## The tables -/

/-- Row `r`, entry `c` of category `k`'s embedding table: ten tables of bins, then sixteen of categories. -/
def tab (x1 : FVec Ideal S10x2x32 .f32) (x2 : FVec Ideal S16x2x32 .f32) (r : Fin 2) (k : Fin 26) (c : Fin 32) : EReal :=
  if h : k.val < 10 then x1 (ix3 ⟨k.val, h⟩ r c) else x2 (ix3 ⟨k.val - 10, by omega⟩ r c)

/-- A table taken row by row of its unit middle axis. -/
theorem dropMid_apply {A : ℕ} (x : FVec Ideal ⟨3, ![A, 1, 32]⟩ .f32) (h : (⟨3, ![A, 1, 32]⟩ : Shape).ShapeCasts ⟨2, ![A, 32]⟩) (k : Fin A) (c : Fin 32) :
    shapeCast ⟨2, ![A, 32]⟩ x h (ix2 k c) = x (ix3 k 0 c) := by
  refine shapeCast_apply x h _ _ ?_
  rw [Shape.rowMajor_val_three, Shape.rowMajor_val_two]
  show (k.val * 1 + 0) * 32 + c.val = k.val * 32 + c.val
  omega

variable (x1 : FVec Ideal S10x2x32 .f32) (x2 : FVec Ideal S16x2x32 .f32) (x3 x5 : FVec Ideal S13x13 .f32) (x4 x6 : FVec Ideal S13 .f32)
  (x7 : FVec Ideal S845x32 .f32) (x8 : FVec Ideal S32 .f32)

theorem stacked_apply (r : Fin 2) (a : FVec Ideal S10x1x32 .f32) (b : FVec Ideal S16x1x32 .f32)
    (ha : ∀ k c, a (ix3 k 0 c) = x1 (ix3 k r c)) (hb : ∀ k c, b (ix3 k 0 c) = x2 (ix3 k r c)) (k : Fin 26) (c : Fin 32) :
    k0_pay1 (F := Ideal) a b (ix2 k c) = tab x1 x2 r k c := by
  unfold k0_pay1 tab
  split
  case isTrue h => exact (below_left _ _ _ ⟨k.val, h⟩ k c rfl).trans ((dropMid_apply a _ _ c).trans (ha _ c))
  case isFalse h =>
    refine (below_right _ _ _ ⟨k.val - 10, by omega⟩ k c ?_).trans ((dropMid_apply b _ _ c).trans (hb _ c))
    show k.val = 10 + (k.val - 10)
    omega

theorem row0_apply (k : Fin 26) (c : Fin 32) : k0_pay1 (F := Ideal) (bins0 x1) (cats0 x2) (ix2 k c) = tab x1 x2 0 k c := by
  refine stacked_apply x1 x2 0 _ _ (fun k c => ?_) (fun k c => ?_) k c
  all_goals
    first | unfold bins0 | unfold cats0 | unfold bins1 | unfold cats1
    refine View.ld_unit_apply_of _ _ _ _ _ _ fun a => ?_
    match a with
    | ⟨0, _⟩ => exact (Nat.zero_add _).symm
    | ⟨1, _⟩ => rfl
    | ⟨2, _⟩ => exact (Nat.zero_add _).symm

theorem row1_apply (k : Fin 26) (c : Fin 32) : k0_pay1 (F := Ideal) (bins1 x1) (cats1 x2) (ix2 k c) = tab x1 x2 1 k c := by
  refine stacked_apply x1 x2 1 _ _ (fun k c => ?_) (fun k c => ?_) k c
  all_goals
    first | unfold bins0 | unfold cats0 | unfold bins1 | unfold cats1
    refine View.ld_unit_apply_of _ _ _ _ _ _ fun a => ?_
    match a with
    | ⟨0, _⟩ => exact (Nat.zero_add _).symm
    | ⟨1, _⟩ => rfl
    | ⟨2, _⟩ => exact (Nat.zero_add _).symm

/-- The difference of the two rows of every table. -/
theorem diff_apply (k : Fin 26) (c : Fin 32) :
    k0_pay2 (F := Ideal) (bins0 x1) (cats0 x2) (bins1 x1) (cats1 x2) (ix2 k c) = tab x1 x2 1 k c - tab x1 x2 0 k c := by
  rw [← row0_apply, ← row1_apply]
  rfl

theorem wRows_apply (k : Fin 26) (c e : Fin 32) : wRows (F := Ideal) x7 (ix2 ⟨32 * k.val + c.val, by omega⟩ e) = x7 (ix2 (wE k c) e) := by
  unfold wRows
  refine View.ld_unit_apply_of _ _ _ _ _ _ fun a => ?_
  match a with
  | ⟨0, _⟩ => exact (Nat.zero_add _).symm
  | ⟨1, _⟩ => exact (Nat.zero_add _).symm

theorem wNums_apply (l : Fin 13) (e : Fin 32) : wNums (F := Ideal) x7 (ix2 l e) = x7 (ix2 (wN l) e) := by
  unfold wNums
  refine View.ld_unit_apply_of _ _ _ _ _ _ fun a => ?_
  match a with
  | ⟨0, _⟩ => rfl
  | ⟨1, _⟩ => exact (Nat.zero_add _).symm

/-! ## The scratch buffers -/

theorem valP_disc_lo (k : Fin 26) (e : Fin 32) :
    valP (F := Ideal) x1 x2 x3 x7 (ix2 (disc k) (lo e)) = ∑ c, (tab x1 x2 1 k c - tab x1 x2 0 k c) * x7 (ix2 (wE k c) e) := by
  unfold valP k0_pay7
  rw [shapeCast_self]
  refine (below_left _ _ _ k (disc k) (lo e) rfl).trans ((beside_left _ _ _ k e (lo e) rfl).trans ?_)
  refine (masked_apply _ _ (copies_apply _ _) _ k e).trans (Finset.sum_congr rfl fun c _ => ?_)
  rw [diff_apply, wRows_apply]

theorem valP_disc_hi (k : Fin 26) (j : Fin 13) : valP (F := Ideal) x1 x2 x3 x7 (ix2 (disc k) (hi j)) = 0 := by
  unfold valP k0_pay7
  rw [shapeCast_self]
  exact (below_left _ _ _ k (disc k) (hi j) rfl).trans ((beside_right _ _ _ k j (hi j) rfl).trans Ideal.ofBits_zero_f32)

theorem valP_num_lo (i : Fin 13) (e : Fin 32) : valP (F := Ideal) x1 x2 x3 x7 (ix2 (num i) (lo e)) = 0 := by
  unfold valP k0_pay7
  rw [shapeCast_self]
  exact (below_right _ _ _ i (num i) (lo e) rfl).trans ((beside_left _ _ _ i e (lo e) rfl).trans Ideal.ofBits_zero_f32)

theorem valP_num_hi (i j : Fin 13) : valP (F := Ideal) x1 x2 x3 x7 (ix2 (num i) (hi j)) = x3 (ix2 i j) := by
  unfold valP k0_pay7
  rw [shapeCast_self]
  exact (below_right _ _ _ i (num i) (hi j) rfl).trans (beside_right _ _ _ i j (hi j) rfl)

theorem valB_lo (e : Fin 32) :
    valB (F := Ideal) x1 x2 x4 x6 x7 x8 (ix2 0 (lo e))
      = (∑ k, ∑ c, tab x1 x2 0 k c * x7 (ix2 (wE k c) e) + x8 (ix1 e)) + ∑ l, x6 (ix1 l) * x7 (ix2 (wN l) e) := by
  unfold valB k0_pay8
  rw [shapeCast_self]
  refine (beside_left _ _ _ 0 e (lo e) rfl).trans ?_
  rw [addf_apply, addf_apply]
  refine congrArg₂ (· + ·) (congrArg₂ (· + ·) ((shapeCast_a_1a_apply _ _ _ _).trans ((Ideal.multiReduction_add_single _ _ _ _ _ _).trans
    (Finset.sum_congr rfl fun k _ => ?_))) (shapeCast_a_1a_apply _ _ _ _)) ?_
  · refine Eq.trans (congrArg _ (?_ : _ = ix2 k e)) ((masked_apply _ _ (copies_apply _ _) _ k e).trans (Finset.sum_congr rfl fun c _ => ?_))
    · funext a
      match a with
      | ⟨0, _⟩ => rfl
      | ⟨1, _⟩ => rfl
    · exact congrArg₂ (· * ·) (row0_apply x1 x2 k c) (wRows_apply x7 k c e)
  · refine (mm_apply dot_S1x13_S13x32_S1x32_1_0_0_1_n_n rfl _ _ 0 e).trans (Finset.sum_congr rfl fun l _ => ?_)
    exact congrArg₂ (· * ·) (shapeCast_a_1a_apply _ _ _ _) (wNums_apply x7 l e)

theorem valB_hi (j : Fin 13) : valB (F := Ideal) x1 x2 x4 x6 x7 x8 (ix2 0 (hi j)) = x4 (ix1 j) := by
  unfold valB k0_pay8
  rw [shapeCast_self]
  exact (beside_right _ _ _ 0 j (hi j) rfl).trans (shapeCast_a_1a_apply _ _ _ _)

theorem valG_lo (i : Fin 32) (e : Fin 32) : valG (F := Ideal) x5 x7 (ix2 (lo i) e) = 0 := by
  unfold valG k0_pay10 k0_pay9
  rw [shapeCast_self]
  exact (below_left _ _ _ i (lo i) e rfl).trans Ideal.ofBits_zero_f32

theorem valG_hi (j : Fin 13) (e : Fin 32) : valG (F := Ideal) x5 x7 (ix2 (hi j) e) = ∑ l, x5 (ix2 j l) * x7 (ix2 (wN l) e) := by
  unfold valG k0_pay10 k0_pay9
  rw [shapeCast_self]
  refine (below_right _ _ _ j (hi j) e rfl).trans ((mm_apply dot_S13x13_S13x32_S13x32_1_0_0_1_n_n rfl _ _ j e).trans
    (Finset.sum_congr rfl fun l _ => ?_))
  rw [wNums_apply]

/-- THE COMBINED WEIGHTS: what the first point leaves in the scratch buffers. -/
theorem combined : Combined (tab x1 x2) (fun i j => x3 (ix2 i j)) (fun j l => x5 (ix2 j l)) (fun j => x4 (ix1 j)) (fun l => x6 (ix1 l))
    (fun n e => x7 (ix2 n e)) (fun e => x8 (ix1 e)) (fun k n => valP (F := Ideal) x1 x2 x3 x7 (ix2 k n))
    (fun n => valB (F := Ideal) x1 x2 x4 x6 x7 x8 (ix2 0 n)) (fun n e => valG (F := Ideal) x5 x7 (ix2 n e)) where
  disc_lo := valP_disc_lo x1 x2 x3 x7
  num_lo := valP_num_lo x1 x2 x3 x7
  disc_hi := valP_disc_hi x1 x2 x3 x7
  num_hi := valP_num_hi x1 x2 x3 x7
  bias_lo := valB_lo x1 x2 x4 x6 x7 x8
  bias_hi := valB_hi x1 x2 x4 x6 x7 x8
  gate_lo := valG_lo x5 x7
  gate_hi := valG_hi x5 x7

end Cert.KernelIdeal

end
-- ==== Proof.Blocks.lean ====
/- The staged blocks read at an index, and the output's rows by the program's arguments. -/
module

public import proofs.«01_k».proof.Proof.Data
public import proofs.«01_k».proof.Proof.Weights

@[expose] public section

set_option maxRecDepth 16384

noncomputable section

namespace Cert.KernelIdeal

open Gen Idealize.ShloMosaic Idealize.ShloMosaic.TcCoe Idealize.ShloMosaic.ValueIdx Cert.Head
open Idealize.ShloMosaic.Pipeline (Window)

section Blocks

variable {F : FTy → Type} [FloatOps F]
variable (m : (ℓ : Loc nD τ sig) → Buf (Elt F) ℓ)

/-- `x`'s block at point `t` is the eight rows from `8 t` on, cut at the array's end. -/
theorem size0 : ∀ t : Fin cfg0.N, win0_0.xsize (grid0.coords t) 0 = 1024 ∧ win0_0.xsize (grid0.coords t) 1 = min 8 (50 - 8 * t.val) ∧ win0_0.xsize (grid0.coords t) 2 = 39 :=
  (by decide +kernel : ∀ t : Fin grid0.N, win0_0.xsize (grid0.coords t) 0 = 1024 ∧ win0_0.xsize (grid0.coords t) 1 = min 8 (50 - 8 * t.val) ∧ win0_0.xsize (grid0.coords t) 2 = 39)
theorem place0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
/-- The output's block at point `t` likewise. -/
theorem size11 : ∀ t : Fin cfg0.N, win0_11.xsize (grid0.coords t) 0 = 1024 ∧ win0_11.xsize (grid0.coords t) 1 = min 8 (50 - 8 * t.val) ∧ win0_11.xsize (grid0.coords t) 2 = 32 :=
  (by decide +kernel : ∀ t : Fin grid0.N, win0_11.xsize (grid0.coords t) 0 = 1024 ∧ win0_11.xsize (grid0.coords t) 1 = min 8 (50 - 8 * t.val) ∧ win0_11.xsize (grid0.coords t) 2 = 32)
theorem place11 : ∀ t : Fin cfg0.N, win0_11.index t 0 = 0 ∧ win0_11.index t 1 = t.val ∧ win0_11.index t 2 = 0 :=
  (by decide +kernel : ∀ t : Fin grid0.N, win0_11.index t 0 = 0 ∧ win0_11.index t 1 = t.val ∧ win0_11.index t 2 = 0)

/-- `x`'s staging buffer at a row inside the array holds that row, whatever the rows past the end hold. -/
theorem xFill_apply (c : Dev nD) (t : Fin cfg0.N) (d : Vec F S1024x8x39 .f32) (i : Fin 1024) (j : Fin 8) (k : Fin 39) (hj : 8 * t.val + j.val < 50) :
    xFill m c t d (ix3 i j k) = m ((c : Thread nD τ).loc main_arg0) (ix3 i ⟨8 * t.val + j.val, hj⟩ k) := by
  obtain ⟨s0, s1, s2⟩ := size0 t
  obtain ⟨p0, p1, p2⟩ := place0 t
  have hm : win0_0.moved (grid0.coords t) (ix3 i j k) = true := by
    rw [Window.moved_iff]
    intro a
    match a with
    | ⟨0, _⟩ => exact lt_of_lt_of_eq i.isLt s0.symm
    | ⟨1, _⟩ => exact lt_of_lt_of_eq (show j.val < min 8 (50 - 8 * t.val) by omega) s1.symm
    | ⟨2, _⟩ => exact lt_of_lt_of_eq k.isLt s2.symm
  unfold xFill Window.fill
  rw [dif_pos hm, ← V_main_arg0 m c]
  unfold iblk
  refine congrArg (V m c main_arg0) (funext fun a => Fin.ext ?_)
  match a with
  | ⟨0, _⟩ =>
    show win0_0.index t 0 * 1024 + 1 * i.val = i.val
    rw [p0]; omega
  | ⟨1, _⟩ =>
    show win0_0.index t 1 * 8 + 1 * j.val = 8 * t.val + j.val
    rw [p1]; omega
  | ⟨2, _⟩ =>
    show win0_0.index t 2 * 39 + 1 * k.val = k.val
    rw [p2]; omega

theorem place1 : ∀ (t : Fin cfg0.N) (a : Fin 3), win0_1.index t a = 0 :=
  (by decide +kernel : ∀ (t : Fin grid0.N) (a : Fin 3), win0_1.index t a = 0)
/-- Window 1 stages the whole argument. -/
theorem blk1_eq (c : Dev nD) (t : Fin cfg0.N) : blk1 m c t = m ((c : Thread nD τ).loc main_arg1) := by
  rw [← V_main_arg1 m c]
  funext y
  unfold blk1 iblk
  refine congrArg (V m c main_arg1) (funext fun a => Fin.ext ?_)
  match a with
  | ⟨0, _⟩ =>
    show win0_1.index t 0 * 10 + 1 * (y 0).val = (y 0).val
    rw [place1 t 0]; omega
  | ⟨1, _⟩ =>
    show win0_1.index t 1 * 2 + 1 * (y 1).val = (y 1).val
    rw [place1 t 1]; omega
  | ⟨2, _⟩ =>
    show win0_1.index t 2 * 32 + 1 * (y 2).val = (y 2).val
    rw [place1 t 2]; omega
theorem place2 : ∀ (t : Fin cfg0.N) (a : Fin 3), win0_2.index t a = 0 :=
  (by decide +kernel : ∀ (t : Fin grid0.N) (a : Fin 3), win0_2.index t a = 0)
/-- Window 2 stages the array the host operation makes. -/
theorem blk2_eq (c : Dev nD) (t : Fin cfg0.N) : blk2 m c t = V m c main_call0_v0 := by
  funext y
  unfold blk2 iblk
  refine congrArg (V m c main_call0_v0) (funext fun a => Fin.ext ?_)
  match a with
  | ⟨0, _⟩ =>
    show win0_2.index t 0 * 16 + 1 * (y 0).val = (y 0).val
    rw [place2 t 0]; omega
  | ⟨1, _⟩ =>
    show win0_2.index t 1 * 2 + 1 * (y 1).val = (y 1).val
    rw [place2 t 1]; omega
  | ⟨2, _⟩ =>
    show win0_2.index t 2 * 32 + 1 * (y 2).val = (y 2).val
    rw [place2 t 2]; omega
theorem place3 : ∀ (t : Fin cfg0.N) (a : Fin 2), win0_3.index t a = 0 :=
  (by decide +kernel : ∀ (t : Fin grid0.N) (a : Fin 2), win0_3.index t a = 0)
/-- Window 3 stages the whole argument. -/
theorem blk3_eq (c : Dev nD) (t : Fin cfg0.N) : blk3 m c t = m ((c : Thread nD τ).loc main_arg3) := by
  rw [← V_main_arg3 m c]
  funext y
  unfold blk3 iblk
  refine congrArg (V m c main_arg3) (funext fun a => Fin.ext ?_)
  match a with
  | ⟨0, _⟩ =>
    show win0_3.index t 0 * 13 + 1 * (y 0).val = (y 0).val
    rw [place3 t 0]; omega
  | ⟨1, _⟩ =>
    show win0_3.index t 1 * 13 + 1 * (y 1).val = (y 1).val
    rw [place3 t 1]; omega
theorem place4 : ∀ (t : Fin cfg0.N) (a : Fin 1), win0_4.index t a = 0 :=
  (by decide +kernel : ∀ (t : Fin grid0.N) (a : Fin 1), win0_4.index t a = 0)
/-- Window 4 stages the whole argument. -/
theorem blk4_eq (c : Dev nD) (t : Fin cfg0.N) : blk4 m c t = m ((c : Thread nD τ).loc main_arg4) := by
  rw [← V_main_arg4 m c]
  funext y
  unfold blk4 iblk
  refine congrArg (V m c main_arg4) (funext fun a => Fin.ext ?_)
  match a with
  | ⟨0, _⟩ =>
    show win0_4.index t 0 * 13 + 1 * (y 0).val = (y 0).val
    rw [place4 t 0]; omega
theorem place5 : ∀ (t : Fin cfg0.N) (a : Fin 2), win0_5.index t a = 0 :=
  (by decide +kernel : ∀ (t : Fin grid0.N) (a : Fin 2), win0_5.index t a = 0)
/-- Window 5 stages the whole argument. -/
theorem blk5_eq (c : Dev nD) (t : Fin cfg0.N) : blk5 m c t = m ((c : Thread nD τ).loc main_arg5) := by
  rw [← V_main_arg5 m c]
  funext y
  unfold blk5 iblk
  refine congrArg (V m c main_arg5) (funext fun a => Fin.ext ?_)
  match a with
  | ⟨0, _⟩ =>
    show win0_5.index t 0 * 13 + 1 * (y 0).val = (y 0).val
    rw [place5 t 0]; omega
  | ⟨1, _⟩ =>
    show win0_5.index t 1 * 13 + 1 * (y 1).val = (y 1).val
    rw [place5 t 1]; omega
theorem place6 : ∀ (t : Fin cfg0.N) (a : Fin 1), win0_6.index t a = 0 :=
  (by decide +kernel : ∀ (t : Fin grid0.N) (a : Fin 1), win0_6.index t a = 0)
/-- Window 6 stages the whole argument. -/
theorem blk6_eq (c : Dev nD) (t : Fin cfg0.N) : blk6 m c t = m ((c : Thread nD τ).loc main_arg6) := by
  rw [← V_main_arg6 m c]
  funext y
  unfold blk6 iblk
  refine congrArg (V m c main_arg6) (funext fun a => Fin.ext ?_)
  match a with
  | ⟨0, _⟩ =>
    show win0_6.index t 0 * 13 + 1 * (y 0).val = (y 0).val
    rw [place6 t 0]; omega
theorem place7 : ∀ (t : Fin cfg0.N) (a : Fin 2), win0_7.index t a = 0 :=
  (by decide +kernel : ∀ (t : Fin grid0.N) (a : Fin 2), win0_7.index t a = 0)
/-- Window 7 stages the whole argument. -/
theorem blk7_eq (c : Dev nD) (t : Fin cfg0.N) : blk7 m c t = m ((c : Thread nD τ).loc main_arg7) := by
  rw [← V_main_arg7 m c]
  funext y
  unfold blk7 iblk
  refine congrArg (V m c main_arg7) (funext fun a => Fin.ext ?_)
  match a with
  | ⟨0, _⟩ =>
    show win0_7.index t 0 * 845 + 1 * (y 0).val = (y 0).val
    rw [place7 t 0]; omega
  | ⟨1, _⟩ =>
    show win0_7.index t 1 * 32 + 1 * (y 1).val = (y 1).val
    rw [place7 t 1]; omega
theorem place8 : ∀ (t : Fin cfg0.N) (a : Fin 1), win0_8.index t a = 0 :=
  (by decide +kernel : ∀ (t : Fin grid0.N) (a : Fin 1), win0_8.index t a = 0)
/-- Window 8 stages the whole argument. -/
theorem blk8_eq (c : Dev nD) (t : Fin cfg0.N) : blk8 m c t = m ((c : Thread nD τ).loc main_arg8) := by
  rw [← V_main_arg8 m c]
  funext y
  unfold blk8 iblk
  refine congrArg (V m c main_arg8) (funext fun a => Fin.ext ?_)
  match a with
  | ⟨0, _⟩ =>
    show win0_8.index t 0 * 32 + 1 * (y 0).val = (y 0).val
    rw [place8 t 0]; omega
theorem place9 : ∀ (t : Fin cfg0.N) (a : Fin 2), win0_9.index t a = 0 :=
  (by decide +kernel : ∀ (t : Fin grid0.N) (a : Fin 2), win0_9.index t a = 0)
/-- Window 9 stages the whole argument. -/
theorem blk9_eq (c : Dev nD) (t : Fin cfg0.N) : blk9 m c t = m ((c : Thread nD τ).loc main_arg9) := by
  rw [← V_main_arg9 m c]
  funext y
  unfold blk9 iblk
  refine congrArg (V m c main_arg9) (funext fun a => Fin.ext ?_)
  match a with
  | ⟨0, _⟩ =>
    show win0_9.index t 0 * 32 + 1 * (y 0).val = (y 0).val
    rw [place9 t 0]; omega
  | ⟨1, _⟩ =>
    show win0_9.index t 1 * 32 + 1 * (y 1).val = (y 1).val
    rw [place9 t 1]; omega
theorem place10 : ∀ (t : Fin cfg0.N) (a : Fin 1), win0_10.index t a = 0 :=
  (by decide +kernel : ∀ (t : Fin grid0.N) (a : Fin 1), win0_10.index t a = 0)
/-- Window 10 stages the whole argument. -/
theorem blk10_eq (c : Dev nD) (t : Fin cfg0.N) : blk10 m c t = m ((c : Thread nD τ).loc main_arg10) := by
  rw [← V_main_arg10 m c]
  funext y
  unfold blk10 iblk
  refine congrArg (V m c main_arg10) (funext fun a => Fin.ext ?_)
  match a with
  | ⟨0, _⟩ =>
    show win0_10.index t 0 * 32 + 1 * (y 0).val = (y 0).val
    rw [place10 t 0]; omega

/-- The host operation takes the first two rows of every table of categories. -/
theorem V_cats (c : Dev nD) (k : Fin 16) (r : Fin 2) (e : Fin 32) :
    (V m c main_call0_v0 : Vec F S16x2x32 .f32) (ix3 k r e) = (m ((c : Thread nD τ).loc main_arg2) : Vec F S16x1000x32 .f32) (ix3 k ⟨r.val, by omega⟩ e) := by
  have h : (V m c main_call0_v0 : Vec F S16x2x32 .f32)
      = extractStridedSlice S16x2x32 ![0, 0, 0] (m ((c : Thread nD τ).loc main_arg2) : Vec F S16x1000x32 .f32) slices_S16x1000x32_S16x2x32_0_0_0 := by
    simp only [V, hostOps0, StableHlo.TRef.unary, StableHlo.after_cons, StableHlo.after_nil]
    exact (StableHlo.unary_result _ _ _ _ _ _).trans rfl
  rw [h]
  refine congrArg (m ((c : Thread nD τ).loc main_arg2) : Vec F S16x1000x32 .f32) (funext fun a => Fin.ext ?_)
  match a with
  | ⟨0, _⟩ => exact Nat.zero_add _
  | ⟨1, _⟩ => exact Nat.zero_add _
  | ⟨2, _⟩ => exact Nat.zero_add _

end Blocks

/-! ## The output's rows -/

variable (m : (ℓ : Loc nD τ sig) → Buf (Elt Ideal) ℓ)

theorem tab_eq (c : Dev nD) (t : Fin cfg0.N) : tab (blk1 m c t) (blk2 m c t) = rows2 (m ((c : Thread nD τ).loc main_arg1)) (m ((c : Thread nD τ).loc main_arg2)) := by
  funext r k e
  unfold tab rows2
  rw [blk1_eq, blk2_eq]
  split
  · rfl
  · exact V_cats m c _ r e

/-- The output row `(i, j)` by the combined weights. -/
def kerRow (c : Dev nD) (i : Fin 1024) (j : Fin 50) (e : Fin 32) : EReal :=
  rowOut (kerHead (fun k => (m ((c : Thread nD τ).loc main_arg0) : FVec Ideal S1024x50x39 .f32) (ix3 i j k)) (fun k n => sP m c (ix2 k n)) (fun n => sB m c (ix2 0 n))
      fun n e => sG m c (ix2 n e))
    (fun k e => (m ((c : Thread nD τ).loc main_arg9) : FVec Ideal S32x32 .f32) (ix2 k e)) (fun e => (m ((c : Thread nD τ).loc main_arg10) : FVec Ideal S32 .f32) (ix1 e)) e

/-- The body's result at a row inside the array is that row's. -/
theorem outV_apply (c : Dev nD) (t : Fin cfg0.N) (d : Vec Ideal S1024x8x39 .f32) (i : Fin 1024) (j : Fin 8) (e : Fin 32) (hj : 8 * t.val + j.val < 50) :
    outV m c t (xFill m c t d) (ix3 i j e) = kerRow m c i ⟨8 * t.val + j.val, hj⟩ e := by
  unfold outV kerRow
  rw [pay11_apply, blk9_eq, blk10_eq]
  simp only [xFill_apply m c t d i j _ hj]

/-- What the body leaves of the output's block inside the array does not depend on the rows past the end of `x`'s. -/
theorem outV_cut (c : Dev nD) (t : Fin cfg0.N) (d d' : Vec Ideal S1024x8x39 .f32) :
    win0_11.cut (grid0.coords t) (outV m c t (xFill m c t d)) = win0_11.cut (grid0.coords t) (outV m c t (xFill m c t d')) := by
  funext y
  obtain ⟨s0, s1, s2⟩ := size11 t
  have h1 : (y 1).val < min 8 (50 - 8 * t.val) := lt_of_lt_of_eq (y 1).isLt s1
  have hy : win0_11.xinj (grid0.coords t) y
      = ix3 (⟨(y 0).val, lt_of_lt_of_eq (y 0).isLt s0⟩ : Fin 1024) (⟨(y 1).val, by omega⟩ : Fin 8) (⟨(y 2).val, lt_of_lt_of_eq (y 2).isLt s2⟩ : Fin 32) := by
    funext a
    match a with
    | ⟨0, _⟩ => rfl
    | ⟨1, _⟩ => rfl
    | ⟨2, _⟩ => rfl
  show outV m c t (xFill m c t d) (win0_11.xinj (grid0.coords t) y) = outV m c t (xFill m c t d') (win0_11.xinj (grid0.coords t) y)
  rw [hy, outV_apply m c t d _ _ _ (by show 8 * t.val + (y 1).val < 50; omega), outV_apply m c t d' _ _ _ (by show 8 * t.val + (y 1).val < 50; omega)]

/-- The combined weights of a run, by the program's arguments. -/
theorem combined_run (c : Dev nD) :
    Combined (rows2 (m ((c : Thread nD τ).loc main_arg1)) (m ((c : Thread nD τ).loc main_arg2)))
      (fun i j => (m ((c : Thread nD τ).loc main_arg3) : FVec Ideal S13x13 .f32) (ix2 i j)) (fun j l => (m ((c : Thread nD τ).loc main_arg5) : FVec Ideal S13x13 .f32) (ix2 j l))
      (fun j => (m ((c : Thread nD τ).loc main_arg4) : FVec Ideal S13 .f32) (ix1 j)) (fun l => (m ((c : Thread nD τ).loc main_arg6) : FVec Ideal S13 .f32) (ix1 l))
      (fun n e => (m ((c : Thread nD τ).loc main_arg7) : FVec Ideal S845x32 .f32) (ix2 n e)) (fun e => (m ((c : Thread nD τ).loc main_arg8) : FVec Ideal S32 .f32) (ix1 e))
      (fun k n => sP m c (ix2 k n)) (fun n => sB m c (ix2 0 n)) (fun n e => sG m c (ix2 n e)) := by
  have h := combined (blk1 m c t0_0) (blk2 m c t0_0) (blk3 m c t0_0) (blk5 m c t0_0) (blk4 m c t0_0) (blk6 m c t0_0) (blk7 m c t0_0) (blk8 m c t0_0)
  rw [tab_eq] at h
  unfold sP sB sG
  rw [← blk3_eq m c t0_0, ← blk4_eq m c t0_0, ← blk5_eq m c t0_0, ← blk6_eq m c t0_0, ← blk7_eq m c t0_0, ← blk8_eq m c t0_0]
  exact h

end Cert.KernelIdeal

end
-- ==== Proof.ValueRun.lean ====
/- The kernel's run with its result named row by row. -/
module

public import proofs.«01_k».proof.Proof.Blocks
public import Idealize.ShloMosaic.Lib.Pipeline.Value

@[expose] public section

set_option maxRecDepth 16384

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

set_option maxHeartbeats 4000000 in
/-- The body obligation: the output's buffer holds the block's result, up to rows past the array's end. -/
theorem body_value (c : Dev nD) : BodyObligationLoose (dats (F := Ideal) m 0 c) (defs₀ (F := Ideal)) Variants.none () Set.univ := fun t => by
  rw [bigSep_W0, bigSep_W0, defs₀_row]
  rw [show (dats m 0 c).owesAt () t.succ = (dats m 0 c).owesAt () t.castSucc from rfl]
  rw [show (dats m 0 c).Φ t.castSucc = PhiS m c t.val from rfl, show (dats m 0 c).Φ t.succ = PhiS m c (t.val + 1) from rfl]
  change iprop(_ ∗ _ ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))) ⊢ wp frame (wpE (defs₀ (F := Ideal)) Variants.none c none) Set.univ (bodyAt0 t) (fun _ =>
      iprop(_ ∗ _ ∗ (∃ d, owns (c : Thread nD τ) (stg0 t) fullShare (win0_0.fill (grid0.coords t) d (win0_0.cut (grid0.coords t) ((dats m 0 c).after 0 t))))
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ (∃ d, owns (c : Thread nD τ) (stg11 t) fullShare (win0_11.fill (grid0.coords t) d (win0_11.cut (grid0.coords t) ((dats m 0 c).after 11 t))))))
  simp only [before_0, before_1, before_2, before_3, before_4, before_5, before_6, before_7, before_8, before_9, before_10, after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (point_run m c t d0)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨HΦ, H0, H1, H2, H3, H4, H5, H6, H7, H8, H9, H10, H11⟩
  isplitl [HΦ]; · iexact HΦ
  isplitl [Ho]; · iexact Ho
  isplitl [H0]
  · iexists d0
    rw [show win0_0.cut (grid0.coords t) (xFill m c t (fun _ => (Scalar.ofBits .f32 0#32 : Ideal .f32))) = iblk m c 0 t from Window.cut_fill _ _ _ _]
    iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists (outV m c t (xFill m c t d0))
  rw [show win0_11.fill (grid0.coords t) (outV m c t (xFill m c t d0)) (win0_11.cut (grid0.coords t) (outV m c t (xFill m c t (fun _ => (Scalar.ofBits .f32 0#32 : Ideal .f32)))))
      = outV m c t (xFill m c t d0) from Window.fill_congr_cut _ _ (outV_cut m c t _ _)]
  iexact H11

set_option backward.isDefEq.respectTransparency.types false in
/-- The run with every array named after it. -/
theorem run_track : θ_run defs (onTc (τ := τ) (main (F := Ideal))) (s₀ m ρ) (fun r => Pipeline.FramePost cfgs (dats m) 0 (V m) r ∧ r.2.sem = fun _ => 0) :=
  Pipeline.θ_run_frame_track (Q' := _) (hQ' := fun _ h => h) cfgs (dats m) (0 : Fin 1) launch0 defs₀ Variants.none m ρ main
    (hbody := body_value m) (hshare := fun c => (dats m 0 c).share_full fun _ => rfl) (howed := fun _ _ => rfl) (V := V m)
    (hmain := hmain m Variants.none) (hA := A_eq m) (hin := hin m) (hout := hout m)

/-- Distinct points write back distinct blocks. -/
theorem apart11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne
    ((by decide +kernel : ∀ t t' : Fin grid0.N, win0_11.index t = win0_11.index t' → t = t') t t' h)

/-- The output array after the run, at row `(i, j)`: point `j / 8` writes it back from row `j % 8` of its block. -/
theorem out_apply (c : Dev nD) (i : Fin 1024) (j : Fin 50) (e : Fin 32) :
    ((dats m 0 c).arrAt 11 cfg0.N : FVec Ideal S1024x50x32 .f32) (ix3 i j e) = kerRow m c i j e := by
  have ht : j.val / 8 < cfg0.N := lt_of_lt_of_eq (show j.val / 8 < 7 by omega) (by decide)
  let t : Fin cfg0.N := ⟨j.val / 8, ht⟩
  obtain ⟨s0, s1, s2⟩ := size11 t
  obtain ⟨p0, p1, p2⟩ := place11 t
  have tv : t.val = j.val / 8 := rfl
  let y : (win0_11.xblock (grid0.coords t)).Idx := fun a => match a with
    | ⟨0, _⟩ => ⟨i.val, lt_of_lt_of_eq i.isLt s0.symm⟩
    | ⟨1, _⟩ => ⟨j.val % 8, lt_of_lt_of_eq (show j.val % 8 < min 8 (50 - 8 * t.val) by omega) s1.symm⟩
    | ⟨2, _⟩ => ⟨e.val, lt_of_lt_of_eq e.isLt s2.symm⟩
  have hb := congrFun ((dats m 0 c).read_blk_arrAt_eq_flushed 11 apart11 cfg0.N t t.isLt (flush0_11 t)) y
  have hl : ((cfg0.win 11).blk t).view.read (Elt Ideal) ((dats m 0 c).arrAt 11 cfg0.N) y
      = ((dats m 0 c).arrAt 11 cfg0.N : FVec Ideal S1024x50x32 .f32) (ix3 i j e) := by
    refine congrArg ((dats m 0 c).arrAt 11 cfg0.N : FVec Ideal S1024x50x32 .f32) (funext fun a => Fin.ext ?_)
    match a with
    | ⟨0, _⟩ =>
      show win0_11.index t 0 * 1024 + 1 * i.val = i.val
      rw [p0]; omega
    | ⟨1, _⟩ =>
      show win0_11.index t 1 * 8 + 1 * (j.val % 8) = j.val
      rw [p1]; omega
    | ⟨2, _⟩ =>
      show win0_11.index t 2 * 32 + 1 * e.val = e.val
      rw [p2]; omega
  have hr : (dats m 0 c).flushed 11 t y = kerRow m c i j e := by
    show (dats m 0 c).after 11 t (win0_11.xinj (grid0.coords t) y) = _
    rw [after_11]
    have hy : win0_11.xinj (grid0.coords t) y = ix3 i (⟨j.val % 8, by omega⟩ : Fin 8) e := by
      funext a
      match a with
      | ⟨0, _⟩ => rfl
      | ⟨1, _⟩ => rfl
      | ⟨2, _⟩ => rfl
    rw [hy, outV_apply m c t _ i _ e (by show 8 * t.val + j.val % 8 < 50; omega)]
    exact congrArg (kerRow m c i · e) (Fin.ext (by show 8 * t.val + j.val % 8 = j.val; omega))
  exact hl.symm.trans (hb.trans hr)

/-- THE KERNEL'S RUN: every row of the result is the kernel's row, and the arguments end as launched. -/
theorem value_run : θ_run defs (onTc (τ := τ) (main (F := Ideal))) ⟨m, fun _ => 0, ρ⟩ fun r => ∀ c : Dev nD,
      (∀ i j e, (r.2.mem ((c : Thread nD τ).loc main_v0) : FVec Ideal S1024x50x32 .f32) (ix3 i j e) = kerRow m c i j e)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h' c => by
    have h := h'.1
    exact ⟨fun i j e => (congrFun ((h c).1 11) (ix3 i j e)).trans (out_apply m c i j e),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c)))⟩) (run_track m ρ)

end Cert.KernelIdeal

end
-- ==== Proof.RefOps.lean ====
/- The reference's operations read at an index: its products, its biases, its words of zero and one, and a row of an
   embedding table taken at such a word. -/
module

public import proofs.«01_k».proof.Proof.Head
public import Idealize.ShloMosaic.Lib.Pipeline.Value
public import Idealize.ShloMosaic.Lib.ReduceAll
public import Idealize.ShloMosaic.Lib.IdealHost

@[expose] public section

noncomputable section

namespace Cert.RefOps

open Idealize.ShloMosaic Idealize.ShloMosaic.ValueIdx Cert.Head

/-! ## Products and biases -/

/-- A product over the last axis of a rank-3 array and the first of a matrix, at an index. -/
theorem dot3_apply {A B K N : ℕ}
    (w : DotDims.WF (⟨3, ![A, B, K]⟩ : Shape) (⟨2, ![K, N]⟩ : Shape) (⟨3, ![A, B, N]⟩ : Shape) [2] [0] [0, 1] [1] [] [])
    (X : FVec Ideal ⟨3, ![A, B, K]⟩ .f32) (W : FVec Ideal ⟨2, ![K, N]⟩ .f32) (a : Fin A) (b : Fin B) (n : Fin N) :
    Host.dotGeneral (⟨[2], [0], [0, 1], [1], [], [], w⟩ : DotDims (⟨3, ![A, B, K]⟩ : Shape) (⟨2, ![K, N]⟩ : Shape) (⟨3, ![A, B, N]⟩ : Shape))
      none X W (ix3 a b n) = (∑ k : Fin K, X (ix3 a b k) * W (ix2 k n) : EReal) := by
  show FloatOps.dotGeneral _ none _ X W (ix3 a b n) = _
  rw [Ideal.dotGeneral_apply, ← Equiv.sum_comp (contrEquiv1
    (⟨[2], [0], [0, 1], [1], [], [], w⟩ : DotDims (⟨3, ![A, B, K]⟩ : Shape) (⟨2, ![K, N]⟩ : Shape) (⟨3, ![A, B, N]⟩ : Shape)) K rfl rfl).symm]
  refine Finset.sum_congr rfl fun k _ => ?_
  have ck := contrEquiv1_symm_val
    (⟨[2], [0], [0, 1], [1], [], [], w⟩ : DotDims (⟨3, ![A, B, K]⟩ : Shape) (⟨2, ![K, N]⟩ : Shape) (⟨3, ![A, B, N]⟩ : Shape)) K rfl rfl k
  have hl : (⟨[2], [0], [0, 1], [1], [], [], w⟩ : DotDims (⟨3, ![A, B, K]⟩ : Shape) (⟨2, ![K, N]⟩ : Shape) (⟨3, ![A, B, N]⟩ : Shape)).lhsIdx
      (ix3 a b n) ((contrEquiv1 _ K rfl rfl).symm k) = ix3 a b k := by
    funext ax; apply Fin.ext
    match ax with
    | ⟨0, _⟩ => simp [DotDims.lhsIdx]; rfl
    | ⟨1, _⟩ => simp [DotDims.lhsIdx]; rfl
    | ⟨2, _⟩ => simp [DotDims.lhsIdx]; exact ck
  have hr : (⟨[2], [0], [0, 1], [1], [], [], w⟩ : DotDims (⟨3, ![A, B, K]⟩ : Shape) (⟨2, ![K, N]⟩ : Shape) (⟨3, ![A, B, N]⟩ : Shape)).rhsIdx
      (ix3 a b n) ((contrEquiv1 _ K rfl rfl).symm k) = ix2 k n := by
    funext ax; apply Fin.ext
    match ax with
    | ⟨0, _⟩ => simp [DotDims.rhsIdx]; exact ck
    | ⟨1, _⟩ => simp [DotDims.rhsIdx]; rfl
  rw [hl, hr]

/-- A bias spread over the rows of a rank-3 array, at an index. -/
theorem bias_apply {α : Type} {A B N : ℕ} (hN : N ≠ 1) (v : (⟨1, ![N]⟩ : Shape).Idx → α)
    (h₁ : (⟨1, ![N]⟩ : Shape).BroadcastsInDim ⟨3, ![1, 1, N]⟩ ![2])
    (h₂ : (⟨3, ![1, 1, N]⟩ : Shape).BroadcastsInDim ⟨3, ![A, B, N]⟩ ![0, 1, 2]) (a : Fin A) (b : Fin B) (n : Fin N) :
    broadcastInDim ⟨3, ![A, B, N]⟩ ![0, 1, 2] h₂ (broadcastInDim ⟨3, ![1, 1, N]⟩ ![2] h₁ v) (ix3 a b n) = v (ix1 n) := by
  refine (broadcastInDim_apply _ h₂ _ (ix3 a b n) (ix3 0 0 n) fun x => ?_).trans
    (broadcastInDim_apply _ h₁ v (ix3 0 0 n) (ix1 n) fun x => ?_)
  · match x with
    | ⟨0, _⟩ => rfl
    | ⟨1, _⟩ => rfl
    | ⟨2, _⟩ => exact (if_neg hN).symm
  · match x with
    | ⟨0, _⟩ => exact (if_neg hN).symm

/-- A concatenation of two along the last axis of a rank-3 array, at an index of the first. -/
theorem cat_left {A B M N K : ℕ} (x : FVec Ideal ⟨3, ![A, B, M]⟩ .f32) (y : FVec Ideal ⟨3, ![A, B, N]⟩ .f32)
    (h : Shape.Concatenates [⟨3, ![A, B, M]⟩, ⟨3, ![A, B, N]⟩] ⟨3, ![A, B, K]⟩ 2) (a : Fin A) (b : Fin B) (n : Fin M) (n' : Fin K)
    (hn : n'.val = n.val) :
    concatenate ⟨3, ![A, B, K]⟩ 2 [⟨⟨3, ![A, B, M]⟩, x⟩, ⟨⟨3, ![A, B, N]⟩, y⟩] h (ix3 a b n') = x (ix3 a b n) := by
  refine concatenate_pair_apply_left _ x y h _ rfl (ix3 a b n) fun c => ?_
  match c with
  | ⟨0, _⟩ => rfl
  | ⟨1, _⟩ => rfl
  | ⟨2, _⟩ => exact hn.symm

/-- A concatenation of two along the last axis of a rank-3 array, at an index of the second. -/
theorem cat_right {A B M N K : ℕ} (x : FVec Ideal ⟨3, ![A, B, M]⟩ .f32) (y : FVec Ideal ⟨3, ![A, B, N]⟩ .f32)
    (h : Shape.Concatenates [⟨3, ![A, B, M]⟩, ⟨3, ![A, B, N]⟩] ⟨3, ![A, B, K]⟩ 2) (a : Fin A) (b : Fin B) (n : Fin N) (n' : Fin K)
    (hn : n'.val = M + n.val) :
    concatenate ⟨3, ![A, B, K]⟩ 2 [⟨⟨3, ![A, B, M]⟩, x⟩, ⟨⟨3, ![A, B, N]⟩, y⟩] h (ix3 a b n') = y (ix3 a b n) := by
  refine concatenate_pair_apply_right _ x y h _ rfl rfl (ix3 a b n) (fun c hc => ?_) ?_
  · match c with
    | ⟨0, _⟩ => rfl
    | ⟨1, _⟩ => rfl
    | ⟨2, _⟩ => exact absurd rfl hc
  · show n.val + M = n'.val
    omega

/-! ## Words -/

/-- Zero converts to the word 0. -/
theorem word_zero : Ideal.fptosi 32 0 = 0#32 := by
  show BitVec.ofInt 32 (max (-(2 ^ (32 - 1) : ℕ) : ℤ) (min ((2 ^ (32 - 1) : ℕ) - 1 : ℤ) (if (0 : ℝ) ≤ 0 then ⌊(0 : ℝ)⌋ else ⌈(0 : ℝ)⌉))) = 0#32
  rw [if_pos (by norm_num), Int.floor_zero]
  decide

/-- One converts to the word 1. -/
theorem word_one : Ideal.fptosi 32 1 = 1#32 := by
  show BitVec.ofInt 32 (max (-(2 ^ (32 - 1) : ℕ) : ℤ) (min ((2 ^ (32 - 1) : ℕ) - 1 : ℤ) (if (0 : ℝ) ≤ 1 then ⌊(1 : ℝ)⌋ else ⌈(1 : ℝ)⌉))) = 1#32
  rw [if_pos (by norm_num), Int.floor_one]
  decide

/-- A number that is 0 or 1 converts to the word of its row. -/
theorem word_row (x : EReal) (h : x = 0 ∨ x = 1) : Ideal.fptosi 32 x = BitVec.ofNat 32 (if x = 1 then (1 : Fin 2) else 0).val := by
  rcases h with rfl | rfl
  · rw [if_neg (by simp), word_zero]; rfl
  · rw [if_pos rfl, word_one]; rfl

/-- A column of the words, at an index. -/
theorem col_apply (x : FVec Ideal ⟨3, ![1024, 50, 39]⟩ .f32) (k : ℕ) (hk : k < 39)
    (h₀ : (⟨3, ![1024, 50, 39]⟩ : Shape).Slices ![0, 0, 0] ⟨3, ![1024, 50, 26]⟩)
    (h₁ : (⟨3, ![1024, 50, 26]⟩ : Shape).Slices ![0, 0, k] ⟨3, ![1024, 50, 1]⟩)
    (h₂ : (⟨3, ![1024, 50, 1]⟩ : Shape).ShapeCasts ⟨2, ![1024, 50]⟩) (b : Fin 1024) (t : Fin 50) :
    shapeCast ⟨2, ![1024, 50]⟩ (extractStridedSlice ⟨3, ![1024, 50, 1]⟩ ![0, 0, k]
      (fptosi 32 (extractStridedSlice ⟨3, ![1024, 50, 26]⟩ ![0, 0, 0] x h₀)) h₁) h₂ (ix2 b t) = Ideal.fptosi 32 (x (ix3 b t ⟨k, hk⟩)) := by
  have hk' : k < 26 := by
    have := h₁.2 2
    change k + 1 ≤ 26 at this
    omega
  refine (shapeCast_apply _ h₂ (ix2 b t) (ix3 b t 0) ?_).trans ((extractStridedSlice_apply _ _ h₁ (ix3 b t 0) (ix3 b t ⟨k, hk'⟩) fun a => ?_).trans
    (congrArg (Ideal.fptosi 32) (extractStridedSlice_apply _ x h₀ (ix3 b t ⟨k, hk'⟩) (ix3 b t ⟨k, hk⟩) fun a => ?_)))
  · rw [Shape.rowMajor_val_three, Shape.rowMajor_val_two]
    show (b.val * 50 + t.val) * 1 + 0 = b.val * 50 + t.val
    omega
  · match a with
    | ⟨0, _⟩ => exact (Nat.zero_add _).symm
    | ⟨1, _⟩ => exact (Nat.zero_add _).symm
    | ⟨2, _⟩ => rfl
  · match a with
    | ⟨0, _⟩ => exact (Nat.zero_add _).symm
    | ⟨1, _⟩ => exact (Nat.zero_add _).symm
    | ⟨2, _⟩ => exact (Nat.zero_add _).symm

/-- The start index that a word not below zero gives: the word itself. -/
theorem start_apply (w : IVec ⟨2, ![1024, 50]⟩ 32) (z n : (⟨2, ![1024, 50]⟩ : Shape).Idx → BitVec 32)
    (h : (⟨2, ![1024, 50]⟩ : Shape).BroadcastsInDim ⟨3, ![1024, 50, 1]⟩ ![0, 1]) (hz : ∀ i, z i = 0#32) (r : Fin 1024 → Fin 50 → Fin 2)
    (hw : ∀ b t, w (ix2 b t) = BitVec.ofNat 32 (r b t).val) (b : Fin 1024) (t : Fin 50) :
    broadcastInDim ⟨3, ![1024, 50, 1]⟩ ![0, 1] h (select (cmpi .slt w z) (addi w n) w) (ix3 b t 0) = BitVec.ofNat 32 (r b t).val := by
  refine (broadcastInDim_apply _ h _ (ix3 b t 0) (ix2 b t) fun a => ?_).trans ?_
  · match a with
    | ⟨0, _⟩ => rfl
    | ⟨1, _⟩ => rfl
  · have hc : cmpi .slt w z (ix2 b t) = 0#1 := by
      show IntOp.cmpi .slt (w (ix2 b t)) (z (ix2 b t)) = 0#1
      rw [hz, hw]
      generalize r b t = q
      revert q
      decide
    rw [select_apply, hc, select_zero, hw]

/-! ## A row of a table -/

/-- The dimension numbers of taking whole rows of a table of `N` rows at one word per place. -/
abbrev rowDims (N : ℕ) (wf : GatherDims.WF ⟨2, ![N, 32]⟩ ⟨3, ![1024, 50, 1]⟩ ⟨3, ![1024, 50, 32]⟩ [2] [0] [] [0] [] 2 ![1, 32]) :
    GatherDims ⟨2, ![N, 32]⟩ ⟨3, ![1024, 50, 1]⟩ ⟨3, ![1024, 50, 32]⟩ where
  offsetDims := [2]
  collapsedSliceDims := [0]
  operandBatchingDims := []
  startIndicesBatchingDims := []
  startIndexMap := [0]
  indexVectorDim := 2
  sliceSizes := ![1, 32]
  wf := wf

/-- The rows taken, at an index whose word names row `q`. -/
theorem rows_apply {N : ℕ} (hN : 2 ≤ N)
    (wf : GatherDims.WF ⟨2, ![N, 32]⟩ ⟨3, ![1024, 50, 1]⟩ ⟨3, ![1024, 50, 32]⟩ [2] [0] [] [0] [] 2 ![1, 32])
    (T : FVec Ideal ⟨2, ![N, 32]⟩ .f32) (idx : IVec ⟨3, ![1024, 50, 1]⟩ 32) (b : Fin 1024) (t : Fin 50) (c : Fin 32) (q : Fin 2)
    (hq : idx (ix3 b t 0) = BitVec.ofNat 32 q.val) :
    Host.gather (rowDims N wf) T idx (ix3 b t c) = T (ix2 ⟨q.val, by omega⟩ c) := by
  unfold Host.gather
  refine congrArg T (funext fun a => Fin.ext ?_)
  match a with
  | ⟨0, _⟩ =>
    show (rowDims N wf).start (ix3 b t c) idx 0 + (rowDims N wf).batchCoord (ix3 b t c) 0 + (rowDims N wf).offCoord (ix3 b t c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N wf).startIndexMap from List.mem_singleton.mpr rfl)]
    have hsi : (rowDims N wf).siIdx (ix3 b t c) ⟨List.idxOf (0 : Fin 2) (rowDims N wf).startIndexMap,
        List.idxOf_lt_length_iff.2 (List.mem_singleton.mpr rfl)⟩ = ix3 b t 0 := by
      funext x; refine Fin.ext ?_
      match x with
      | ⟨0, _⟩ => rfl
      | ⟨1, _⟩ => rfl
      | ⟨2, _⟩ => rfl
    rw [hsi, hq]
    show min (BitVec.ofNat 32 q.val).toInt.toNat (N - 1) = q.val
    have e : ∀ q : Fin 2, (BitVec.ofNat 32 q.val).toInt.toNat = q.val := by decide
    rw [e]
    omega
  | ⟨1, _⟩ =>
    show (rowDims N wf).start (ix3 b t c) idx 1 + (rowDims N wf).batchCoord (ix3 b t c) 1 + (rowDims N wf).offCoord (ix3 b t c) 1 = _
    rw [GatherDims.batchCoord_eq_zero _ _ _ List.not_mem_nil]
    have hs : (rowDims N wf).start (ix3 b t c) idx 1 = 0 := by
      unfold GatherDims.start
      exact dif_neg (show (1 : Fin 2) ∉ [0] by decide)
    rw [hs]
    simp only [Nat.zero_add]
    rfl

/-- Every place's word is a row of the table, so no place is masked. -/
theorem mask_apply (idx lo hi : IVec ⟨3, ![1024, 50, 1]⟩ 32) (init : IVec ⟨0, ![]⟩ 1)
    (hr : (⟨3, ![1024, 50, 1]⟩ : Shape).ReducesTo [2] ⟨2, ![1024, 50]⟩) (hu : 0 < (⟨0, ![]⟩ : Shape).numel)
    (hb : (⟨2, ![1024, 50]⟩ : Shape).BroadcastsInDim ⟨3, ![1024, 50, 32]⟩ ![0, 1])
    (h0 : ∀ i, init i = 1#1) (hlo : ∀ i, lo i = 0#32) (n : BitVec 32) (hhi : ∀ i, hi i = n)
    (hn : ∀ q : Fin 2, IntOp.cmpi .sle (BitVec.ofNat 32 q.val) n = 1#1) (r : Fin 1024 → Fin 50 → Fin 2)
    (hidx : ∀ b t, idx (ix3 b t 0) = BitVec.ofNat 32 (r b t).val) (b : Fin 1024) (t : Fin 50) (c : Fin 32) :
    broadcastInDim ⟨3, ![1024, 50, 32]⟩ ![0, 1] hb
      (Host.reduce IntOp.andi (andi (cmpi .sge idx lo) (cmpi .sle idx hi)) init hr hu) (ix3 b t c) = 1#1 := by
  refine (broadcastInDim_apply _ hb _ (ix3 b t c) (ix2 b t) fun a => ?_).trans
    (Host.reduce_andi_one _ init hr hu _ (h0 _) fun i => ?_)
  · match a with
    | ⟨0, _⟩ => rfl
    | ⟨1, _⟩ => rfl
  · obtain ⟨b', t', rfl⟩ : ∃ (b' : Fin 1024) (t' : Fin 50), i = ix3 b' t' 0 := ⟨i 0, i 1, by
      funext x
      match x with
      | ⟨0, _⟩ => rfl
      | ⟨1, _⟩ => rfl
      | ⟨2, _⟩ => exact Subsingleton.elim (α := Fin 1) _ _⟩
    show IntOp.andi (IntOp.cmpi .sge (idx (ix3 b' t' 0)) (lo (ix3 b' t' 0))) (IntOp.cmpi .sle (idx (ix3 b' t' 0)) (hi (ix3 b' t' 0))) = 1#1
    rw [hlo, hhi, hidx, hn]
    generalize r b' t' = q
    revert q
    decide

/-- A table of a stack of them, at an index. -/
theorem table_apply {M N : ℕ} (A : FVec Ideal ⟨3, ![M, N, 32]⟩ .f32) (j : Fin M)
    (h₁ : (⟨3, ![M, N, 32]⟩ : Shape).Slices ![j.val, 0, 0] ⟨3, ![1, N, 32]⟩) (h₂ : (⟨3, ![1, N, 32]⟩ : Shape).ShapeCasts ⟨2, ![N, 32]⟩)
    (r : Fin N) (c : Fin 32) :
    shapeCast ⟨2, ![N, 32]⟩ (extractStridedSlice ⟨3, ![1, N, 32]⟩ ![j.val, 0, 0] A h₁) h₂ (ix2 r c) = A (ix3 j r c) := by
  refine (shapeCast_apply _ h₂ (ix2 r c) (ix3 0 r c) ?_).trans (extractStridedSlice_apply _ A h₁ (ix3 0 r c) (ix3 j r c) fun a => ?_)
  · rw [Shape.rowMajor_val_three, Shape.rowMajor_val_two]
    show (0 * N + r.val) * 32 + c.val = r.val * 32 + c.val
    omega
  · match a with
    | ⟨0, _⟩ => rfl
    | ⟨1, _⟩ => exact (Nat.zero_add _).symm
    | ⟨2, _⟩ => exact (Nat.zero_add _).symm

/-- The row of a table taken at a category whose numbers are all 0 or 1, at an index: row 1 or row 0. -/
theorem take_apply {N : ℕ} (hN : 2 ≤ N) (x : FVec Ideal ⟨3, ![1024, 50, 39]⟩ .f32)
    (h01 : ∀ b t k, x (ix3 b t (disc k)) = 0 ∨ x (ix3 b t (disc k)) = 1) (k : Fin 26)
    (wf : GatherDims.WF ⟨2, ![N, 32]⟩ ⟨3, ![1024, 50, 1]⟩ ⟨3, ![1024, 50, 32]⟩ [2] [0] [] [0] [] 2 ![1, 32])
    (w : IVec ⟨2, ![1024, 50]⟩ 32) (hw : ∀ b t, w (ix2 b t) = Ideal.fptosi 32 (x (ix3 b t (disc k))))
    (z s : (⟨2, ![1024, 50]⟩ : Shape).Idx → BitVec 32) (hz : ∀ i, z i = 0#32)
    (h : (⟨2, ![1024, 50]⟩ : Shape).BroadcastsInDim ⟨3, ![1024, 50, 1]⟩ ![0, 1])
    (idx lo hi : IVec ⟨3, ![1024, 50, 1]⟩ 32)
    (hidx : idx = broadcastInDim ⟨3, ![1024, 50, 1]⟩ ![0, 1] h (select (cmpi .slt w z) (addi w s) w)) (init : IVec ⟨0, ![]⟩ 1)
    (hr : (⟨3, ![1024, 50, 1]⟩ : Shape).ReducesTo [2] ⟨2, ![1024, 50]⟩) (hu : 0 < (⟨0, ![]⟩ : Shape).numel)
    (hb : (⟨2, ![1024, 50]⟩ : Shape).BroadcastsInDim ⟨3, ![1024, 50, 32]⟩ ![0, 1])
    (h0 : ∀ i, init i = 1#1) (hlo : ∀ i, lo i = 0#32) (n : BitVec 32) (hhi : ∀ i, hi i = n)
    (hn : ∀ q : Fin 2, IntOp.cmpi .sle (BitVec.ofNat 32 q.val) n = 1#1)
    (T : FVec Ideal ⟨2, ![N, 32]⟩ .f32) (y : FVec Ideal ⟨3, ![1024, 50, 32]⟩ .f32) (b : Fin 1024) (t : Fin 50) (c : Fin 32) :
    select (broadcastInDim ⟨3, ![1024, 50, 32]⟩ ![0, 1] hb
      (Host.reduce IntOp.andi (andi (cmpi .sge idx lo) (cmpi .sle idx hi)) init hr hu)) (Host.gather (rowDims N wf) T idx) y (ix3 b t c)
      = T (ix2 ⟨(if x (ix3 b t (disc k)) = 1 then (1 : Fin 2) else 0).val, by omega⟩ c) := by
  have hi' : ∀ b t, idx (ix3 b t 0) = BitVec.ofNat 32 (if x (ix3 b t (disc k)) = 1 then (1 : Fin 2) else 0).val := fun b t => by
    rw [hidx]
    exact start_apply w z s h hz (fun b t => if x (ix3 b t (disc k)) = 1 then (1 : Fin 2) else 0) (fun b t => (hw b t).trans (word_row _ (h01 b t k))) b t
  rw [select_apply, mask_apply idx lo hi init hr hu hb h0 hlo n hhi hn _ hi', select_one]
  exact rows_apply hN wf T idx b t c _ (hi' b t)

/-- The embedding of one of the ten bins, at an index. -/
theorem bin_look (x : FVec Ideal ⟨3, ![1024, 50, 39]⟩ .f32) (a1 : FVec Ideal ⟨3, ![10, 2, 32]⟩ .f32) (a2 : FVec Ideal ⟨3, ![16, 1000, 32]⟩ .f32)
    (k : Fin 26) (j : Fin 10) (hj : k.val = j.val) (b : Fin 1024) (t : Fin 50) (c : Fin 32) :
    a1 (ix3 j ⟨(if x (ix3 b t (disc k)) = 1 then (1 : Fin 2) else 0).val, by omega⟩ c)
      = look (fun n => x (ix3 b t n)) (rows2 a1 a2) k c := by
  unfold look rows2
  rw [dif_pos (show k.val < 10 by omega), dif_pos (show k.val < 10 by omega)]
  have e : (⟨k.val, by omega⟩ : Fin 10) = j := Fin.ext hj
  rw [e]
  show _ = if x (ix3 b t (disc k)) = 1 then a1 (ix3 j 1 c) else a1 (ix3 j 0 c)
  split <;> rfl

/-- The embedding of one of the sixteen categories, at an index. -/
theorem cat_look (x : FVec Ideal ⟨3, ![1024, 50, 39]⟩ .f32) (a1 : FVec Ideal ⟨3, ![10, 2, 32]⟩ .f32) (a2 : FVec Ideal ⟨3, ![16, 1000, 32]⟩ .f32)
    (k : Fin 26) (j : Fin 16) (hj : k.val = 10 + j.val) (b : Fin 1024) (t : Fin 50) (c : Fin 32) :
    a2 (ix3 j ⟨(if x (ix3 b t (disc k)) = 1 then (1 : Fin 2) else 0).val, by omega⟩ c)
      = look (fun n => x (ix3 b t n)) (rows2 a1 a2) k c := by
  unfold look rows2
  rw [dif_neg (show ¬ k.val < 10 by omega), dif_neg (show ¬ k.val < 10 by omega)]
  have e : (⟨k.val - 10, by omega⟩ : Fin 16) = j := Fin.ext (by show k.val - 10 = j.val; omega)
  rw [e]
  show _ = if x (ix3 b t (disc k)) = 1 then a2 (ix3 j 1 c) else a2 (ix3 j 0 c)
  split <;> rfl

end Cert.RefOps
-- ==== Proof.RRead.lean ====
/- The reference's run read at an index: each category's embedding, and the whole output row. -/
module

public import proofs.«01_k».proof.Proof.Gen.ReferenceIdeal.Run
public import proofs.«01_k».proof.Proof.RefOps

@[expose] public section

set_option maxRecDepth 16384

noncomputable section

namespace Cert.ReferenceIdeal.Read

open Cert.ReferenceIdeal Cert.ReferenceIdeal.Gen Cert.ReferenceIdeal.Value Idealize.ShloMosaic Idealize.ShloMosaic.TcCoe Idealize.SL.Sem
open Idealize.ShloMosaic.StableHlo Idealize.ShloMosaic.ValueIdx Cert.Head Cert.RefOps

variable (V : Valuation τ sig (Elt Ideal))

/-! ## The arguments, by name -/

/-- The rows: 26 categories then 13 numbers. -/
abbrev aX : FVec Ideal S1024x50x39 .f32 := V (Proc.devRef .tc main_arg0)
/-- The bins' tables. -/
abbrev aBins : FVec Ideal S10x2x32 .f32 := V (Proc.devRef .tc main_arg1)
/-- The categories' tables. -/
abbrev aCats : FVec Ideal S16x1000x32 .f32 := V (Proc.devRef .tc main_arg2)

/-- One row of the input. -/
abbrev rowX (b : Fin 1024) (t : Fin 50) (n : Fin 39) : EReal := aX V (ix3 b t n)

/-- Every category of every row is 0 or 1. -/
abbrev Binary : Prop := ∀ b t k, aX V (ix3 b t (disc k)) = 0 ∨ aX V (ix3 b t (disc k)) = 1

variable {V}

/-- The side conditions of a piece of a concatenation of embeddings along the last axis. -/
theorem piece_off (b : Fin 1024) (t : Fin 50) (c : Fin 32) {K : ℕ} (n : Fin K) (x : Fin 3) (hx : x ≠ 2) :
    ((ix3 b t c : S1024x50x32.Idx) x).val = ((ix3 b t n : (⟨3, ![1024, 50, K]⟩ : Shape).Idx) x).val := by
  match x with
  | ⟨0, _⟩ => rfl
  | ⟨1, _⟩ => rfl
  | ⟨2, _⟩ => exact absurd rfl hx

/-! ## The embeddings -/

/-- Category 0's embedding. -/
theorem emb0 (h01 : Binary V) (b : Fin 1024) (t : Fin 50) (c : Fin 32) :
    (res_main_v133 V : FVec Ideal S1024x50x512 .f32) (ix3 b t ⟨0 + c.val, by omega⟩) = look (rowX V b t) (rows2 (aBins V) (aCats V)) 0 c := by
  unfold res_main_v133
  refine Eq.trans (concatenate_apply_piece (2 : Fin S1024x50x512.rank) _ _ _ 0 ?_ S1024x50x32 ?x ?hx rfl 0 ?_ (ix3 b t c) ?_ ?_) ?_
  case hx => rfl
  · show 0 < 16; omega
  · rfl
  · exact fun x hx => piece_off b t c _ x hx
  · rfl
  · exact (take_apply (N := 2) (by omega) (aX V) h01 0 gather_S2x32_S1024x50x1_S1024x50x32_2_0_n_n_0_2_132_wf (res_main_v6 V)
      (fun b t => col_apply (aX V) 0 (by omega) _ _ _ b t) _ _ (fun _ => rfl) bcast_S1024x50_S1024x50x1_0_1 (res_main_call0_v5 V) _ _ rfl _ _ _ _
      (fun _ => rfl) (fun _ => rfl) 1#32 (fun _ => rfl) (by decide) _ _ b t c).trans
      ((table_apply (aBins V) (⟨0, by omega⟩ : Fin 10) slices_S10x2x32_S1x2x32_0_0_0 shapeCasts_S1x2x32_S2x32 _ c).trans
        (bin_look (aX V) (aBins V) (aCats V) 0 ⟨0, by omega⟩ rfl b t c))

/-- Category 1's embedding. -/
theorem emb1 (h01 : Binary V) (b : Fin 1024) (t : Fin 50) (c : Fin 32) :
    (res_main_v133 V : FVec Ideal S1024x50x512 .f32) (ix3 b t ⟨32 + c.val, by omega⟩) = look (rowX V b t) (rows2 (aBins V) (aCats V)) 1 c := by
  unfold res_main_v133
  refine Eq.trans (concatenate_apply_piece (2 : Fin S1024x50x512.rank) _ _ _ 1 ?_ S1024x50x32 ?x ?hx rfl 32 ?_ (ix3 b t c) ?_ ?_) ?_
  case hx => rfl
  · show 1 < 16; omega
  · simp only [List.take_succ_cons, List.take_zero, List.map_cons, List.map_nil, List.sum_cons, List.sum_nil]
    rfl
  · exact fun x hx => piece_off b t c _ x hx
  · rfl
  · exact (take_apply (N := 2) (by omega) (aX V) h01 1 gather_S2x32_S1024x50x1_S1024x50x32_2_0_n_n_0_2_132_wf (res_main_v11 V)
      (fun b t => col_apply (aX V) 1 (by omega) _ _ _ b t) _ _ (fun _ => rfl) bcast_S1024x50_S1024x50x1_0_1 (res_main_call1_v5 V) _ _ rfl _ _ _ _
      (fun _ => rfl) (fun _ => rfl) 1#32 (fun _ => rfl) (by decide) _ _ b t c).trans
      ((table_apply (aBins V) (⟨1, by omega⟩ : Fin 10) slices_S10x2x32_S1x2x32_1_0_0 shapeCasts_S1x2x32_S2x32 _ c).trans
        (bin_look (aX V) (aBins V) (aCats V) 1 ⟨1, by omega⟩ rfl b t c))

/-- Category 2's embedding. -/
theorem emb2 (h01 : Binary V) (b : Fin 1024) (t : Fin 50) (c : Fin 32) :
    (res_main_v133 V : FVec Ideal S1024x50x512 .f32) (ix3 b t ⟨64 + c.val, by omega⟩) = look (rowX V b t) (rows2 (aBins V) (aCats V)) 2 c := by
  unfold res_main_v133
  refine Eq.trans (concatenate_apply_piece (2 : Fin S1024x50x512.rank) _ _ _ 2 ?_ S1024x50x32 ?x ?hx rfl 64 ?_ (ix3 b t c) ?_ ?_) ?_
  case hx => rfl
  · show 2 < 16; omega
  · simp only [List.take_succ_cons, List.take_zero, List.map_cons, List.map_nil, List.sum_cons, List.sum_nil]
    rfl
  · exact fun x hx => piece_off b t c _ x hx
  · rfl
  · exact (take_apply (N := 2) (by omega) (aX V) h01 2 gather_S2x32_S1024x50x1_S1024x50x32_2_0_n_n_0_2_132_wf (res_main_v16 V)
      (fun b t => col_apply (aX V) 2 (by omega) _ _ _ b t) _ _ (fun _ => rfl) bcast_S1024x50_S1024x50x1_0_1 (res_main_call2_v5 V) _ _ rfl _ _ _ _
      (fun _ => rfl) (fun _ => rfl) 1#32 (fun _ => rfl) (by decide) _ _ b t c).trans
      ((table_apply (aBins V) (⟨2, by omega⟩ : Fin 10) slices_S10x2x32_S1x2x32_2_0_0 shapeCasts_S1x2x32_S2x32 _ c).trans
        (bin_look (aX V) (aBins V) (aCats V) 2 ⟨2, by omega⟩ rfl b t c))

/-- Category 3's embedding. -/
theorem emb3 (h01 : Binary V) (b : Fin 1024) (t : Fin 50) (c : Fin 32) :
    (res_main_v133 V : FVec Ideal S1024x50x512 .f32) (ix3 b t ⟨96 + c.val, by omega⟩) = look (rowX V b t) (rows2 (aBins V) (aCats V)) 3 c := by
  unfold res_main_v133
  refine Eq.trans (concatenate_apply_piece (2 : Fin S1024x50x512.rank) _ _ _ 3 ?_ S1024x50x32 ?x ?hx rfl 96 ?_ (ix3 b t c) ?_ ?_) ?_
  case hx => rfl
  · show 3 < 16; omega
  · simp only [List.take_succ_cons, List.take_zero, List.map_cons, List.map_nil, List.sum_cons, List.sum_nil]
    rfl
  · exact fun x hx => piece_off b t c _ x hx
  · rfl
  · exact (take_apply (N := 2) (by omega) (aX V) h01 3 gather_S2x32_S1024x50x1_S1024x50x32_2_0_n_n_0_2_132_wf (res_main_v21 V)
      (fun b t => col_apply (aX V) 3 (by omega) _ _ _ b t) _ _ (fun _ => rfl) bcast_S1024x50_S1024x50x1_0_1 (res_main_call3_v5 V) _ _ rfl _ _ _ _
      (fun _ => rfl) (fun _ => rfl) 1#32 (fun _ => rfl) (by decide) _ _ b t c).trans
      ((table_apply (aBins V) (⟨3, by omega⟩ : Fin 10) slices_S10x2x32_S1x2x32_3_0_0 shapeCasts_S1x2x32_S2x32 _ c).trans
        (bin_look (aX V) (aBins V) (aCats V) 3 ⟨3, by omega⟩ rfl b t c))

/-- Category 4's embedding. -/
theorem emb4 (h01 : Binary V) (b : Fin 1024) (t : Fin 50) (c : Fin 32) :
    (res_main_v133 V : FVec Ideal S1024x50x512 .f32) (ix3 b t ⟨128 + c.val, by omega⟩) = look (rowX V b t) (rows2 (aBins V) (aCats V)) 4 c := by
  unfold res_main_v133
  refine Eq.trans (concatenate_apply_piece (2 : Fin S1024x50x512.rank) _ _ _ 4 ?_ S1024x50x32 ?x ?hx rfl 128 ?_ (ix3 b t c) ?_ ?_) ?_
  case hx => rfl
  · show 4 < 16; omega
  · simp only [List.take_succ_cons, List.take_zero, List.map_cons, List.map_nil, List.sum_cons, List.sum_nil]
    rfl
  · exact fun x hx => piece_off b t c _ x hx
  · rfl
  · exact (take_apply (N := 2) (by omega) (aX V) h01 4 gather_S2x32_S1024x50x1_S1024x50x32_2_0_n_n_0_2_132_wf (res_main_v26 V)
      (fun b t => col_apply (aX V) 4 (by omega) _ _ _ b t) _ _ (fun _ => rfl) bcast_S1024x50_S1024x50x1_0_1 (res_main_call4_v5 V) _ _ rfl _ _ _ _
      (fun _ => rfl) (fun _ => rfl) 1#32 (fun _ => rfl) (by decide) _ _ b t c).trans
      ((table_apply (aBins V) (⟨4, by omega⟩ : Fin 10) slices_S10x2x32_S1x2x32_4_0_0 shapeCasts_S1x2x32_S2x32 _ c).trans
        (bin_look (aX V) (aBins V) (aCats V) 4 ⟨4, by omega⟩ rfl b t c))

/-- Category 5's embedding. -/
theorem emb5 (h01 : Binary V) (b : Fin 1024) (t : Fin 50) (c : Fin 32) :
    (res_main_v133 V : FVec Ideal S1024x50x512 .f32) (ix3 b t ⟨160 + c.val, by omega⟩) = look (rowX V b t) (rows2 (aBins V) (aCats V)) 5 c := by
  unfold res_main_v133
  refine Eq.trans (concatenate_apply_piece (2 : Fin S1024x50x512.rank) _ _ _ 5 ?_ S1024x50x32 ?x ?hx rfl 160 ?_ (ix3 b t c) ?_ ?_) ?_
  case hx => rfl
  · show 5 < 16; omega
  · simp only [List.take_succ_cons, List.take_zero, List.map_cons, List.map_nil, List.sum_cons, List.sum_nil]
    rfl
  · exact fun x hx => piece_off b t c _ x hx
  · rfl
  · exact (take_apply (N := 2) (by omega) (aX V) h01 5 gather_S2x32_S1024x50x1_S1024x50x32_2_0_n_n_0_2_132_wf (res_main_v31 V)
      (fun b t => col_apply (aX V) 5 (by omega) _ _ _ b t) _ _ (fun _ => rfl) bcast_S1024x50_S1024x50x1_0_1 (res_main_call5_v5 V) _ _ rfl _ _ _ _
      (fun _ => rfl) (fun _ => rfl) 1#32 (fun _ => rfl) (by decide) _ _ b t c).trans
      ((table_apply (aBins V) (⟨5, by omega⟩ : Fin 10) slices_S10x2x32_S1x2x32_5_0_0 shapeCasts_S1x2x32_S2x32 _ c).trans
        (bin_look (aX V) (aBins V) (aCats V) 5 ⟨5, by omega⟩ rfl b t c))

/-- Category 6's embedding. -/
theorem emb6 (h01 : Binary V) (b : Fin 1024) (t : Fin 50) (c : Fin 32) :
    (res_main_v133 V : FVec Ideal S1024x50x512 .f32) (ix3 b t ⟨192 + c.val, by omega⟩) = look (rowX V b t) (rows2 (aBins V) (aCats V)) 6 c := by
  unfold res_main_v133
  refine Eq.trans (concatenate_apply_piece (2 : Fin S1024x50x512.rank) _ _ _ 6 ?_ S1024x50x32 ?x ?hx rfl 192 ?_ (ix3 b t c) ?_ ?_) ?_
  case hx => rfl
  · show 6 < 16; omega
  · simp only [List.take_succ_cons, List.take_zero, List.map_cons, List.map_nil, List.sum_cons, List.sum_nil]
    rfl
  · exact fun x hx => piece_off b t c _ x hx
  · rfl
  · exact (take_apply (N := 2) (by omega) (aX V) h01 6 gather_S2x32_S1024x50x1_S1024x50x32_2_0_n_n_0_2_132_wf (res_main_v36 V)
      (fun b t => col_apply (aX V) 6 (by omega) _ _ _ b t) _ _ (fun _ => rfl) bcast_S1024x50_S1024x50x1_0_1 (res_main_call6_v5 V) _ _ rfl _ _ _ _
      (fun _ => rfl) (fun _ => rfl) 1#32 (fun _ => rfl) (by decide) _ _ b t c).trans
      ((table_apply (aBins V) (⟨6, by omega⟩ : Fin 10) slices_S10x2x32_S1x2x32_6_0_0 shapeCasts_S1x2x32_S2x32 _ c).trans
        (bin_look (aX V) (aBins V) (aCats V) 6 ⟨6, by omega⟩ rfl b t c))

/-- Category 7's embedding. -/
theorem emb7 (h01 : Binary V) (b : Fin 1024) (t : Fin 50) (c : Fin 32) :
    (res_main_v133 V : FVec Ideal S1024x50x512 .f32) (ix3 b t ⟨224 + c.val, by omega⟩) = look (rowX V b t) (rows2 (aBins V) (aCats V)) 7 c := by
  unfold res_main_v133
  refine Eq.trans (concatenate_apply_piece (2 : Fin S1024x50x512.rank) _ _ _ 7 ?_ S1024x50x32 ?x ?hx rfl 224 ?_ (ix3 b t c) ?_ ?_) ?_
  case hx => rfl
  · show 7 < 16; omega
  · simp only [List.take_succ_cons, List.take_zero, List.map_cons, List.map_nil, List.sum_cons, List.sum_nil]
    rfl
  · exact fun x hx => piece_off b t c _ x hx
  · rfl
  · exact (take_apply (N := 2) (by omega) (aX V) h01 7 gather_S2x32_S1024x50x1_S1024x50x32_2_0_n_n_0_2_132_wf (res_main_v41 V)
      (fun b t => col_apply (aX V) 7 (by omega) _ _ _ b t) _ _ (fun _ => rfl) bcast_S1024x50_S1024x50x1_0_1 (res_main_call7_v5 V) _ _ rfl _ _ _ _
      (fun _ => rfl) (fun _ => rfl) 1#32 (fun _ => rfl) (by decide) _ _ b t c).trans
      ((table_apply (aBins V) (⟨7, by omega⟩ : Fin 10) slices_S10x2x32_S1x2x32_7_0_0 shapeCasts_S1x2x32_S2x32 _ c).trans
        (bin_look (aX V) (aBins V) (aCats V) 7 ⟨7, by omega⟩ rfl b t c))

/-- Category 8's embedding. -/
theorem emb8 (h01 : Binary V) (b : Fin 1024) (t : Fin 50) (c : Fin 32) :
    (res_main_v133 V : FVec Ideal S1024x50x512 .f32) (ix3 b t ⟨256 + c.val, by omega⟩) = look (rowX V b t) (rows2 (aBins V) (aCats V)) 8 c := by
  unfold res_main_v133
  refine Eq.trans (concatenate_apply_piece (2 : Fin S1024x50x512.rank) _ _ _ 8 ?_ S1024x50x32 ?x ?hx rfl 256 ?_ (ix3 b t c) ?_ ?_) ?_
  case hx => rfl
  · show 8 < 16; omega
  · simp only [List.take_succ_cons, List.take_zero, List.map_cons, List.map_nil, List.sum_cons, List.sum_nil]
    rfl
  · exact fun x hx => piece_off b t c _ x hx
  · rfl
  · exact (take_apply (N := 2) (by omega) (aX V) h01 8 gather_S2x32_S1024x50x1_S1024x50x32_2_0_n_n_0_2_132_wf (res_main_v46 V)
      (fun b t => col_apply (aX V) 8 (by omega) _ _ _ b t) _ _ (fun _ => rfl) bcast_S1024x50_S1024x50x1_0_1 (res_main_call8_v5 V) _ _ rfl _ _ _ _
      (fun _ => rfl) (fun _ => rfl) 1#32 (fun _ => rfl) (by decide) _ _ b t c).trans
      ((table_apply (aBins V) (⟨8, by omega⟩ : Fin 10) slices_S10x2x32_S1x2x32_8_0_0 shapeCasts_S1x2x32_S2x32 _ c).trans
        (bin_look (aX V) (aBins V) (aCats V) 8 ⟨8, by omega⟩ rfl b t c))

/-- Category 9's embedding. -/
theorem emb9 (h01 : Binary V) (b : Fin 1024) (t : Fin 50) (c : Fin 32) :
    (res_main_v133 V : FVec Ideal S1024x50x512 .f32) (ix3 b t ⟨288 + c.val, by omega⟩) = look (rowX V b t) (rows2 (aBins V) (aCats V)) 9 c := by
  unfold res_main_v133
  refine Eq.trans (concatenate_apply_piece (2 : Fin S1024x50x512.rank) _ _ _ 9 ?_ S1024x50x32 ?x ?hx rfl 288 ?_ (ix3 b t c) ?_ ?_) ?_
  case hx => rfl
  · show 9 < 16; omega
  · simp only [List.take_succ_cons, List.take_zero, List.map_cons, List.map_nil, List.sum_cons, List.sum_nil]
    rfl
  · exact fun x hx => piece_off b t c _ x hx
  · rfl
  · exact (take_apply (N := 2) (by omega) (aX V) h01 9 gather_S2x32_S1024x50x1_S1024x50x32_2_0_n_n_0_2_132_wf (res_main_v51 V)
      (fun b t => col_apply (aX V) 9 (by omega) _ _ _ b t) _ _ (fun _ => rfl) bcast_S1024x50_S1024x50x1_0_1 (res_main_call9_v5 V) _ _ rfl _ _ _ _
      (fun _ => rfl) (fun _ => rfl) 1#32 (fun _ => rfl) (by decide) _ _ b t c).trans
      ((table_apply (aBins V) (⟨9, by omega⟩ : Fin 10) slices_S10x2x32_S1x2x32_9_0_0 shapeCasts_S1x2x32_S2x32 _ c).trans
        (bin_look (aX V) (aBins V) (aCats V) 9 ⟨9, by omega⟩ rfl b t c))

/-- Category 10's embedding. -/
theorem emb10 (h01 : Binary V) (b : Fin 1024) (t : Fin 50) (c : Fin 32) :
    (res_main_v133 V : FVec Ideal S1024x50x512 .f32) (ix3 b t ⟨320 + c.val, by omega⟩) = look (rowX V b t) (rows2 (aBins V) (aCats V)) 10 c := by
  unfold res_main_v133
  refine Eq.trans (concatenate_apply_piece (2 : Fin S1024x50x512.rank) _ _ _ 10 ?_ S1024x50x32 ?x ?hx rfl 320 ?_ (ix3 b t c) ?_ ?_) ?_
  case hx => rfl
  · show 10 < 16; omega
  · simp only [List.take_succ_cons, List.take_zero, List.map_cons, List.map_nil, List.sum_cons, List.sum_nil]
    rfl
  · exact fun x hx => piece_off b t c _ x hx
  · rfl
  · exact (take_apply (N := 1000) (by omega) (aX V) h01 10 gather_S1000x32_S1024x50x1_S1024x50x32_2_0_n_n_0_2_132_wf (res_main_v56 V)
      (fun b t => col_apply (aX V) 10 (by omega) _ _ _ b t) _ _ (fun _ => rfl) bcast_S1024x50_S1024x50x1_0_1 (res_main_call10_v5 V) _ _ rfl _ _ _ _
      (fun _ => rfl) (fun _ => rfl) 999#32 (fun _ => rfl) (by decide) _ _ b t c).trans
      ((table_apply (aCats V) (⟨0, by omega⟩ : Fin 16) slices_S16x1000x32_S1x1000x32_0_0_0 shapeCasts_S1x1000x32_S1000x32 _ c).trans
        (cat_look (aX V) (aBins V) (aCats V) 10 ⟨0, by omega⟩ rfl b t c))

/-- Category 11's embedding. -/
theorem emb11 (h01 : Binary V) (b : Fin 1024) (t : Fin 50) (c : Fin 32) :
    (res_main_v133 V : FVec Ideal S1024x50x512 .f32) (ix3 b t ⟨352 + c.val, by omega⟩) = look (rowX V b t) (rows2 (aBins V) (aCats V)) 11 c := by
  unfold res_main_v133
  refine Eq.trans (concatenate_apply_piece (2 : Fin S1024x50x512.rank) _ _ _ 11 ?_ S1024x50x32 ?x ?hx rfl 352 ?_ (ix3 b t c) ?_ ?_) ?_
  case hx => rfl
  · show 11 < 16; omega
  · simp only [List.take_succ_cons, List.take_zero, List.map_cons, List.map_nil, List.sum_cons, List.sum_nil]
    rfl
  · exact fun x hx => piece_off b t c _ x hx
  · rfl
  · exact (take_apply (N := 1000) (by omega) (aX V) h01 11 gather_S1000x32_S1024x50x1_S1024x50x32_2_0_n_n_0_2_132_wf (res_main_v61 V)
      (fun b t => col_apply (aX V) 11 (by omega) _ _ _ b t) _ _ (fun _ => rfl) bcast_S1024x50_S1024x50x1_0_1 (res_main_call11_v5 V) _ _ rfl _ _ _ _
      (fun _ => rfl) (fun _ => rfl) 999#32 (fun _ => rfl) (by decide) _ _ b t c).trans
      ((table_apply (aCats V) (⟨1, by omega⟩ : Fin 16) slices_S16x1000x32_S1x1000x32_1_0_0 shapeCasts_S1x1000x32_S1000x32 _ c).trans
        (cat_look (aX V) (aBins V) (aCats V) 11 ⟨1, by omega⟩ rfl b t c))

/-- Category 12's embedding. -/
theorem emb12 (h01 : Binary V) (b : Fin 1024) (t : Fin 50) (c : Fin 32) :
    (res_main_v133 V : FVec Ideal S1024x50x512 .f32) (ix3 b t ⟨384 + c.val, by omega⟩) = look (rowX V b t) (rows2 (aBins V) (aCats V)) 12 c := by
  unfold res_main_v133
  refine Eq.trans (concatenate_apply_piece (2 : Fin S1024x50x512.rank) _ _ _ 12 ?_ S1024x50x32 ?x ?hx rfl 384 ?_ (ix3 b t c) ?_ ?_) ?_
  case hx => rfl
  · show 12 < 16; omega
  · simp only [List.take_succ_cons, List.take_zero, List.map_cons, List.map_nil, List.sum_cons, List.sum_nil]
    rfl
  · exact fun x hx => piece_off b t c _ x hx
  · rfl
  · exact (take_apply (N := 1000) (by omega) (aX V) h01 12 gather_S1000x32_S1024x50x1_S1024x50x32_2_0_n_n_0_2_132_wf (res_main_v66 V)
      (fun b t => col_apply (aX V) 12 (by omega) _ _ _ b t) _ _ (fun _ => rfl) bcast_S1024x50_S1024x50x1_0_1 (res_main_call12_v5 V) _ _ rfl _ _ _ _
      (fun _ => rfl) (fun _ => rfl) 999#32 (fun _ => rfl) (by decide) _ _ b t c).trans
      ((table_apply (aCats V) (⟨2, by omega⟩ : Fin 16) slices_S16x1000x32_S1x1000x32_2_0_0 shapeCasts_S1x1000x32_S1000x32 _ c).trans
        (cat_look (aX V) (aBins V) (aCats V) 12 ⟨2, by omega⟩ rfl b t c))

/-- Category 13's embedding. -/
theorem emb13 (h01 : Binary V) (b : Fin 1024) (t : Fin 50) (c : Fin 32) :
    (res_main_v133 V : FVec Ideal S1024x50x512 .f32) (ix3 b t ⟨416 + c.val, by omega⟩) = look (rowX V b t) (rows2 (aBins V) (aCats V)) 13 c := by
  unfold res_main_v133
  refine Eq.trans (concatenate_apply_piece (2 : Fin S1024x50x512.rank) _ _ _ 13 ?_ S1024x50x32 ?x ?hx rfl 416 ?_ (ix3 b t c) ?_ ?_) ?_
  case hx => rfl
  · show 13 < 16; omega
  · simp only [List.take_succ_cons, List.take_zero, List.map_cons, List.map_nil, List.sum_cons, List.sum_nil]
    rfl
  · exact fun x hx => piece_off b t c _ x hx
  · rfl
  · exact (take_apply (N := 1000) (by omega) (aX V) h01 13 gather_S1000x32_S1024x50x1_S1024x50x32_2_0_n_n_0_2_132_wf (res_main_v71 V)
      (fun b t => col_apply (aX V) 13 (by omega) _ _ _ b t) _ _ (fun _ => rfl) bcast_S1024x50_S1024x50x1_0_1 (res_main_call13_v5 V) _ _ rfl _ _ _ _
      (fun _ => rfl) (fun _ => rfl) 999#32 (fun _ => rfl) (by decide) _ _ b t c).trans
      ((table_apply (aCats V) (⟨3, by omega⟩ : Fin 16) slices_S16x1000x32_S1x1000x32_3_0_0 shapeCasts_S1x1000x32_S1000x32 _ c).trans
        (cat_look (aX V) (aBins V) (aCats V) 13 ⟨3, by omega⟩ rfl b t c))

/-- Category 14's embedding. -/
theorem emb14 (h01 : Binary V) (b : Fin 1024) (t : Fin 50) (c : Fin 32) :
    (res_main_v133 V : FVec Ideal S1024x50x512 .f32) (ix3 b t ⟨448 + c.val, by omega⟩) = look (rowX V b t) (rows2 (aBins V) (aCats V)) 14 c := by
  unfold res_main_v133
  refine Eq.trans (concatenate_apply_piece (2 : Fin S1024x50x512.rank) _ _ _ 14 ?_ S1024x50x32 ?x ?hx rfl 448 ?_ (ix3 b t c) ?_ ?_) ?_
  case hx => rfl
  · show 14 < 16; omega
  · simp only [List.take_succ_cons, List.take_zero, List.map_cons, List.map_nil, List.sum_cons, List.sum_nil]
    rfl
  · exact fun x hx => piece_off b t c _ x hx
  · rfl
  · exact (take_apply (N := 1000) (by omega) (aX V) h01 14 gather_S1000x32_S1024x50x1_S1024x50x32_2_0_n_n_0_2_132_wf (res_main_v76 V)
      (fun b t => col_apply (aX V) 14 (by omega) _ _ _ b t) _ _ (fun _ => rfl) bcast_S1024x50_S1024x50x1_0_1 (res_main_call14_v5 V) _ _ rfl _ _ _ _
      (fun _ => rfl) (fun _ => rfl) 999#32 (fun _ => rfl) (by decide) _ _ b t c).trans
      ((table_apply (aCats V) (⟨4, by omega⟩ : Fin 16) slices_S16x1000x32_S1x1000x32_4_0_0 shapeCasts_S1x1000x32_S1000x32 _ c).trans
        (cat_look (aX V) (aBins V) (aCats V) 14 ⟨4, by omega⟩ rfl b t c))

/-- Category 15's embedding. -/
theorem emb15 (h01 : Binary V) (b : Fin 1024) (t : Fin 50) (c : Fin 32) :
    (res_main_v133 V : FVec Ideal S1024x50x512 .f32) (ix3 b t ⟨480 + c.val, by omega⟩) = look (rowX V b t) (rows2 (aBins V) (aCats V)) 15 c := by
  unfold res_main_v133
  refine Eq.trans (concatenate_apply_piece (2 : Fin S1024x50x512.rank) _ _ _ 15 ?_ S1024x50x32 ?x ?hx rfl 480 ?_ (ix3 b t c) ?_ ?_) ?_
  case hx => rfl
  · show 15 < 16; omega
  · simp only [List.take_succ_cons, List.take_zero, List.map_cons, List.map_nil, List.sum_cons, List.sum_nil]
    rfl
  · exact fun x hx => piece_off b t c _ x hx
  · rfl
  · exact (take_apply (N := 1000) (by omega) (aX V) h01 15 gather_S1000x32_S1024x50x1_S1024x50x32_2_0_n_n_0_2_132_wf (res_main_v81 V)
      (fun b t => col_apply (aX V) 15 (by omega) _ _ _ b t) _ _ (fun _ => rfl) bcast_S1024x50_S1024x50x1_0_1 (res_main_call15_v5 V) _ _ rfl _ _ _ _
      (fun _ => rfl) (fun _ => rfl) 999#32 (fun _ => rfl) (by decide) _ _ b t c).trans
      ((table_apply (aCats V) (⟨5, by omega⟩ : Fin 16) slices_S16x1000x32_S1x1000x32_5_0_0 shapeCasts_S1x1000x32_S1000x32 _ c).trans
        (cat_look (aX V) (aBins V) (aCats V) 15 ⟨5, by omega⟩ rfl b t c))

/-- Category 16's embedding. -/
theorem emb16 (h01 : Binary V) (b : Fin 1024) (t : Fin 50) (c : Fin 32) :
    (res_main_v134 V : FVec Ideal S1024x50x320 .f32) (ix3 b t ⟨0 + c.val, by omega⟩) = look (rowX V b t) (rows2 (aBins V) (aCats V)) 16 c := by
  unfold res_main_v134
  refine Eq.trans (concatenate_apply_piece (2 : Fin S1024x50x320.rank) _ _ _ 0 ?_ S1024x50x32 ?x ?hx rfl 0 ?_ (ix3 b t c) ?_ ?_) ?_
  case hx => rfl
  · show 0 < 10; omega
  · rfl
  · exact fun x hx => piece_off b t c _ x hx
  · rfl
  · exact (take_apply (N := 1000) (by omega) (aX V) h01 16 gather_S1000x32_S1024x50x1_S1024x50x32_2_0_n_n_0_2_132_wf (res_main_v86 V)
      (fun b t => col_apply (aX V) 16 (by omega) _ _ _ b t) _ _ (fun _ => rfl) bcast_S1024x50_S1024x50x1_0_1 (res_main_call16_v5 V) _ _ rfl _ _ _ _
      (fun _ => rfl) (fun _ => rfl) 999#32 (fun _ => rfl) (by decide) _ _ b t c).trans
      ((table_apply (aCats V) (⟨6, by omega⟩ : Fin 16) slices_S16x1000x32_S1x1000x32_6_0_0 shapeCasts_S1x1000x32_S1000x32 _ c).trans
        (cat_look (aX V) (aBins V) (aCats V) 16 ⟨6, by omega⟩ rfl b t c))

/-- Category 17's embedding. -/
theorem emb17 (h01 : Binary V) (b : Fin 1024) (t : Fin 50) (c : Fin 32) :
    (res_main_v134 V : FVec Ideal S1024x50x320 .f32) (ix3 b t ⟨32 + c.val, by omega⟩) = look (rowX V b t) (rows2 (aBins V) (aCats V)) 17 c := by
  unfold res_main_v134
  refine Eq.trans (concatenate_apply_piece (2 : Fin S1024x50x320.rank) _ _ _ 1 ?_ S1024x50x32 ?x ?hx rfl 32 ?_ (ix3 b t c) ?_ ?_) ?_
  case hx => rfl
  · show 1 < 10; omega
  · simp only [List.take_succ_cons, List.take_zero, List.map_cons, List.map_nil, List.sum_cons, List.sum_nil]
    rfl
  · exact fun x hx => piece_off b t c _ x hx
  · rfl
  · exact (take_apply (N := 1000) (by omega) (aX V) h01 17 gather_S1000x32_S1024x50x1_S1024x50x32_2_0_n_n_0_2_132_wf (res_main_v91 V)
      (fun b t => col_apply (aX V) 17 (by omega) _ _ _ b t) _ _ (fun _ => rfl) bcast_S1024x50_S1024x50x1_0_1 (res_main_call17_v5 V) _ _ rfl _ _ _ _
      (fun _ => rfl) (fun _ => rfl) 999#32 (fun _ => rfl) (by decide) _ _ b t c).trans
      ((table_apply (aCats V) (⟨7, by omega⟩ : Fin 16) slices_S16x1000x32_S1x1000x32_7_0_0 shapeCasts_S1x1000x32_S1000x32 _ c).trans
        (cat_look (aX V) (aBins V) (aCats V) 17 ⟨7, by omega⟩ rfl b t c))

/-- Category 18's embedding. -/
theorem emb18 (h01 : Binary V) (b : Fin 1024) (t : Fin 50) (c : Fin 32) :
    (res_main_v134 V : FVec Ideal S1024x50x320 .f32) (ix3 b t ⟨64 + c.val, by omega⟩) = look (rowX V b t) (rows2 (aBins V) (aCats V)) 18 c := by
  unfold res_main_v134
  refine Eq.trans (concatenate_apply_piece (2 : Fin S1024x50x320.rank) _ _ _ 2 ?_ S1024x50x32 ?x ?hx rfl 64 ?_ (ix3 b t c) ?_ ?_) ?_
  case hx => rfl
  · show 2 < 10; omega
  · simp only [List.take_succ_cons, List.take_zero, List.map_cons, List.map_nil, List.sum_cons, List.sum_nil]
    rfl
  · exact fun x hx => piece_off b t c _ x hx
  · rfl
  · exact (take_apply (N := 1000) (by omega) (aX V) h01 18 gather_S1000x32_S1024x50x1_S1024x50x32_2_0_n_n_0_2_132_wf (res_main_v96 V)
      (fun b t => col_apply (aX V) 18 (by omega) _ _ _ b t) _ _ (fun _ => rfl) bcast_S1024x50_S1024x50x1_0_1 (res_main_call18_v5 V) _ _ rfl _ _ _ _
      (fun _ => rfl) (fun _ => rfl) 999#32 (fun _ => rfl) (by decide) _ _ b t c).trans
      ((table_apply (aCats V) (⟨8, by omega⟩ : Fin 16) slices_S16x1000x32_S1x1000x32_8_0_0 shapeCasts_S1x1000x32_S1000x32 _ c).trans
        (cat_look (aX V) (aBins V) (aCats V) 18 ⟨8, by omega⟩ rfl b t c))

/-- Category 19's embedding. -/
theorem emb19 (h01 : Binary V) (b : Fin 1024) (t : Fin 50) (c : Fin 32) :
    (res_main_v134 V : FVec Ideal S1024x50x320 .f32) (ix3 b t ⟨96 + c.val, by omega⟩) = look (rowX V b t) (rows2 (aBins V) (aCats V)) 19 c := by
  unfold res_main_v134
  refine Eq.trans (concatenate_apply_piece (2 : Fin S1024x50x320.rank) _ _ _ 3 ?_ S1024x50x32 ?x ?hx rfl 96 ?_ (ix3 b t c) ?_ ?_) ?_
  case hx => rfl
  · show 3 < 10; omega
  · simp only [List.take_succ_cons, List.take_zero, List.map_cons, List.map_nil, List.sum_cons, List.sum_nil]
    rfl
  · exact fun x hx => piece_off b t c _ x hx
  · rfl
  · exact (take_apply (N := 1000) (by omega) (aX V) h01 19 gather_S1000x32_S1024x50x1_S1024x50x32_2_0_n_n_0_2_132_wf (res_main_v101 V)
      (fun b t => col_apply (aX V) 19 (by omega) _ _ _ b t) _ _ (fun _ => rfl) bcast_S1024x50_S1024x50x1_0_1 (res_main_call19_v5 V) _ _ rfl _ _ _ _
      (fun _ => rfl) (fun _ => rfl) 999#32 (fun _ => rfl) (by decide) _ _ b t c).trans
      ((table_apply (aCats V) (⟨9, by omega⟩ : Fin 16) slices_S16x1000x32_S1x1000x32_9_0_0 shapeCasts_S1x1000x32_S1000x32 _ c).trans
        (cat_look (aX V) (aBins V) (aCats V) 19 ⟨9, by omega⟩ rfl b t c))

/-- Category 20's embedding. -/
theorem emb20 (h01 : Binary V) (b : Fin 1024) (t : Fin 50) (c : Fin 32) :
    (res_main_v134 V : FVec Ideal S1024x50x320 .f32) (ix3 b t ⟨128 + c.val, by omega⟩) = look (rowX V b t) (rows2 (aBins V) (aCats V)) 20 c := by
  unfold res_main_v134
  refine Eq.trans (concatenate_apply_piece (2 : Fin S1024x50x320.rank) _ _ _ 4 ?_ S1024x50x32 ?x ?hx rfl 128 ?_ (ix3 b t c) ?_ ?_) ?_
  case hx => rfl
  · show 4 < 10; omega
  · simp only [List.take_succ_cons, List.take_zero, List.map_cons, List.map_nil, List.sum_cons, List.sum_nil]
    rfl
  · exact fun x hx => piece_off b t c _ x hx
  · rfl
  · exact (take_apply (N := 1000) (by omega) (aX V) h01 20 gather_S1000x32_S1024x50x1_S1024x50x32_2_0_n_n_0_2_132_wf (res_main_v106 V)
      (fun b t => col_apply (aX V) 20 (by omega) _ _ _ b t) _ _ (fun _ => rfl) bcast_S1024x50_S1024x50x1_0_1 (res_main_call20_v5 V) _ _ rfl _ _ _ _
      (fun _ => rfl) (fun _ => rfl) 999#32 (fun _ => rfl) (by decide) _ _ b t c).trans
      ((table_apply (aCats V) (⟨10, by omega⟩ : Fin 16) slices_S16x1000x32_S1x1000x32_10_0_0 shapeCasts_S1x1000x32_S1000x32 _ c).trans
        (cat_look (aX V) (aBins V) (aCats V) 20 ⟨10, by omega⟩ rfl b t c))

/-- Category 21's embedding. -/
theorem emb21 (h01 : Binary V) (b : Fin 1024) (t : Fin 50) (c : Fin 32) :
    (res_main_v134 V : FVec Ideal S1024x50x320 .f32) (ix3 b t ⟨160 + c.val, by omega⟩) = look (rowX V b t) (rows2 (aBins V) (aCats V)) 21 c := by
  unfold res_main_v134
  refine Eq.trans (concatenate_apply_piece (2 : Fin S1024x50x320.rank) _ _ _ 5 ?_ S1024x50x32 ?x ?hx rfl 160 ?_ (ix3 b t c) ?_ ?_) ?_
  case hx => rfl
  · show 5 < 10; omega
  · simp only [List.take_succ_cons, List.take_zero, List.map_cons, List.map_nil, List.sum_cons, List.sum_nil]
    rfl
  · exact fun x hx => piece_off b t c _ x hx
  · rfl
  · exact (take_apply (N := 1000) (by omega) (aX V) h01 21 gather_S1000x32_S1024x50x1_S1024x50x32_2_0_n_n_0_2_132_wf (res_main_v111 V)
      (fun b t => col_apply (aX V) 21 (by omega) _ _ _ b t) _ _ (fun _ => rfl) bcast_S1024x50_S1024x50x1_0_1 (res_main_call21_v5 V) _ _ rfl _ _ _ _
      (fun _ => rfl) (fun _ => rfl) 999#32 (fun _ => rfl) (by decide) _ _ b t c).trans
      ((table_apply (aCats V) (⟨11, by omega⟩ : Fin 16) slices_S16x1000x32_S1x1000x32_11_0_0 shapeCasts_S1x1000x32_S1000x32 _ c).trans
        (cat_look (aX V) (aBins V) (aCats V) 21 ⟨11, by omega⟩ rfl b t c))

/-- Category 22's embedding. -/
theorem emb22 (h01 : Binary V) (b : Fin 1024) (t : Fin 50) (c : Fin 32) :
    (res_main_v134 V : FVec Ideal S1024x50x320 .f32) (ix3 b t ⟨192 + c.val, by omega⟩) = look (rowX V b t) (rows2 (aBins V) (aCats V)) 22 c := by
  unfold res_main_v134
  refine Eq.trans (concatenate_apply_piece (2 : Fin S1024x50x320.rank) _ _ _ 6 ?_ S1024x50x32 ?x ?hx rfl 192 ?_ (ix3 b t c) ?_ ?_) ?_
  case hx => rfl
  · show 6 < 10; omega
  · simp only [List.take_succ_cons, List.take_zero, List.map_cons, List.map_nil, List.sum_cons, List.sum_nil]
    rfl
  · exact fun x hx => piece_off b t c _ x hx
  · rfl
  · exact (take_apply (N := 1000) (by omega) (aX V) h01 22 gather_S1000x32_S1024x50x1_S1024x50x32_2_0_n_n_0_2_132_wf (res_main_v116 V)
      (fun b t => col_apply (aX V) 22 (by omega) _ _ _ b t) _ _ (fun _ => rfl) bcast_S1024x50_S1024x50x1_0_1 (res_main_call22_v5 V) _ _ rfl _ _ _ _
      (fun _ => rfl) (fun _ => rfl) 999#32 (fun _ => rfl) (by decide) _ _ b t c).trans
      ((table_apply (aCats V) (⟨12, by omega⟩ : Fin 16) slices_S16x1000x32_S1x1000x32_12_0_0 shapeCasts_S1x1000x32_S1000x32 _ c).trans
        (cat_look (aX V) (aBins V) (aCats V) 22 ⟨12, by omega⟩ rfl b t c))

/-- Category 23's embedding. -/
theorem emb23 (h01 : Binary V) (b : Fin 1024) (t : Fin 50) (c : Fin 32) :
    (res_main_v134 V : FVec Ideal S1024x50x320 .f32) (ix3 b t ⟨224 + c.val, by omega⟩) = look (rowX V b t) (rows2 (aBins V) (aCats V)) 23 c := by
  unfold res_main_v134
  refine Eq.trans (concatenate_apply_piece (2 : Fin S1024x50x320.rank) _ _ _ 7 ?_ S1024x50x32 ?x ?hx rfl 224 ?_ (ix3 b t c) ?_ ?_) ?_
  case hx => rfl
  · show 7 < 10; omega
  · simp only [List.take_succ_cons, List.take_zero, List.map_cons, List.map_nil, List.sum_cons, List.sum_nil]
    rfl
  · exact fun x hx => piece_off b t c _ x hx
  · rfl
  · exact (take_apply (N := 1000) (by omega) (aX V) h01 23 gather_S1000x32_S1024x50x1_S1024x50x32_2_0_n_n_0_2_132_wf (res_main_v121 V)
      (fun b t => col_apply (aX V) 23 (by omega) _ _ _ b t) _ _ (fun _ => rfl) bcast_S1024x50_S1024x50x1_0_1 (res_main_call23_v5 V) _ _ rfl _ _ _ _
      (fun _ => rfl) (fun _ => rfl) 999#32 (fun _ => rfl) (by decide) _ _ b t c).trans
      ((table_apply (aCats V) (⟨13, by omega⟩ : Fin 16) slices_S16x1000x32_S1x1000x32_13_0_0 shapeCasts_S1x1000x32_S1000x32 _ c).trans
        (cat_look (aX V) (aBins V) (aCats V) 23 ⟨13, by omega⟩ rfl b t c))

/-- Category 24's embedding. -/
theorem emb24 (h01 : Binary V) (b : Fin 1024) (t : Fin 50) (c : Fin 32) :
    (res_main_v134 V : FVec Ideal S1024x50x320 .f32) (ix3 b t ⟨256 + c.val, by omega⟩) = look (rowX V b t) (rows2 (aBins V) (aCats V)) 24 c := by
  unfold res_main_v134
  refine Eq.trans (concatenate_apply_piece (2 : Fin S1024x50x320.rank) _ _ _ 8 ?_ S1024x50x32 ?x ?hx rfl 256 ?_ (ix3 b t c) ?_ ?_) ?_
  case hx => rfl
  · show 8 < 10; omega
  · simp only [List.take_succ_cons, List.take_zero, List.map_cons, List.map_nil, List.sum_cons, List.sum_nil]
    rfl
  · exact fun x hx => piece_off b t c _ x hx
  · rfl
  · exact (take_apply (N := 1000) (by omega) (aX V) h01 24 gather_S1000x32_S1024x50x1_S1024x50x32_2_0_n_n_0_2_132_wf (res_main_v126 V)
      (fun b t => col_apply (aX V) 24 (by omega) _ _ _ b t) _ _ (fun _ => rfl) bcast_S1024x50_S1024x50x1_0_1 (res_main_call24_v5 V) _ _ rfl _ _ _ _
      (fun _ => rfl) (fun _ => rfl) 999#32 (fun _ => rfl) (by decide) _ _ b t c).trans
      ((table_apply (aCats V) (⟨14, by omega⟩ : Fin 16) slices_S16x1000x32_S1x1000x32_14_0_0 shapeCasts_S1x1000x32_S1000x32 _ c).trans
        (cat_look (aX V) (aBins V) (aCats V) 24 ⟨14, by omega⟩ rfl b t c))

/-- Category 25's embedding. -/
theorem emb25 (h01 : Binary V) (b : Fin 1024) (t : Fin 50) (c : Fin 32) :
    (res_main_v134 V : FVec Ideal S1024x50x320 .f32) (ix3 b t ⟨288 + c.val, by omega⟩) = look (rowX V b t) (rows2 (aBins V) (aCats V)) 25 c := by
  unfold res_main_v134
  refine Eq.trans (concatenate_apply_piece (2 : Fin S1024x50x320.rank) _ _ _ 9 ?_ S1024x50x32 ?x ?hx rfl 288 ?_ (ix3 b t c) ?_ ?_) ?_
  case hx => rfl
  · show 9 < 10; omega
  · simp only [List.take_succ_cons, List.take_zero, List.map_cons, List.map_nil, List.sum_cons, List.sum_nil]
    rfl
  · exact fun x hx => piece_off b t c _ x hx
  · rfl
  · exact (take_apply (N := 1000) (by omega) (aX V) h01 25 gather_S1000x32_S1024x50x1_S1024x50x32_2_0_n_n_0_2_132_wf (res_main_v131 V)
      (fun b t => col_apply (aX V) 25 (by omega) _ _ _ b t) _ _ (fun _ => rfl) bcast_S1024x50_S1024x50x1_0_1 (res_main_call25_v5 V) _ _ rfl _ _ _ _
      (fun _ => rfl) (fun _ => rfl) 999#32 (fun _ => rfl) (by decide) _ _ b t c).trans
      ((table_apply (aCats V) (⟨15, by omega⟩ : Fin 16) slices_S16x1000x32_S1x1000x32_15_0_0 shapeCasts_S1x1000x32_S1000x32 _ c).trans
        (cat_look (aX V) (aBins V) (aCats V) 25 ⟨15, by omega⟩ rfl b t c))

/-- The embeddings one after the other, at an index: entry `c` of category `k`. -/
theorem emb_apply (h01 : Binary V) (b : Fin 1024) (t : Fin 50) (k : Fin 26) (c : Fin 32) :
    concatenate S1024x50x832 2 [⟨S1024x50x512, (res_main_v133 V : FVec Ideal S1024x50x512 .f32)⟩, ⟨S1024x50x320, (res_main_v134 V : FVec Ideal S1024x50x320 .f32)⟩]
      concatenates_S1024x50x512_S1024x50x320_S1024x50x832_d2 (ix3 b t (⟨32 * k.val + c.val, by omega⟩ : Fin 832))
      = look (rowX V b t) (rows2 (aBins V) (aCats V)) k c := by
  match k with
  | ⟨0, _⟩ => exact (cat_left _ _ _ b t ⟨0 + c.val, by omega⟩ _ (by show 32 * 0 + c.val = 0 + c.val; omega)).trans (emb0 h01 b t c)
  | ⟨1, _⟩ => exact (cat_left _ _ _ b t ⟨32 + c.val, by omega⟩ _ (by show 32 * 1 + c.val = 32 + c.val; omega)).trans (emb1 h01 b t c)
  | ⟨2, _⟩ => exact (cat_left _ _ _ b t ⟨64 + c.val, by omega⟩ _ (by show 32 * 2 + c.val = 64 + c.val; omega)).trans (emb2 h01 b t c)
  | ⟨3, _⟩ => exact (cat_left _ _ _ b t ⟨96 + c.val, by omega⟩ _ (by show 32 * 3 + c.val = 96 + c.val; omega)).trans (emb3 h01 b t c)
  | ⟨4, _⟩ => exact (cat_left _ _ _ b t ⟨128 + c.val, by omega⟩ _ (by show 32 * 4 + c.val = 128 + c.val; omega)).trans (emb4 h01 b t c)
  | ⟨5, _⟩ => exact (cat_left _ _ _ b t ⟨160 + c.val, by omega⟩ _ (by show 32 * 5 + c.val = 160 + c.val; omega)).trans (emb5 h01 b t c)
  | ⟨6, _⟩ => exact (cat_left _ _ _ b t ⟨192 + c.val, by omega⟩ _ (by show 32 * 6 + c.val = 192 + c.val; omega)).trans (emb6 h01 b t c)
  | ⟨7, _⟩ => exact (cat_left _ _ _ b t ⟨224 + c.val, by omega⟩ _ (by show 32 * 7 + c.val = 224 + c.val; omega)).trans (emb7 h01 b t c)
  | ⟨8, _⟩ => exact (cat_left _ _ _ b t ⟨256 + c.val, by omega⟩ _ (by show 32 * 8 + c.val = 256 + c.val; omega)).trans (emb8 h01 b t c)
  | ⟨9, _⟩ => exact (cat_left _ _ _ b t ⟨288 + c.val, by omega⟩ _ (by show 32 * 9 + c.val = 288 + c.val; omega)).trans (emb9 h01 b t c)
  | ⟨10, _⟩ => exact (cat_left _ _ _ b t ⟨320 + c.val, by omega⟩ _ (by show 32 * 10 + c.val = 320 + c.val; omega)).trans (emb10 h01 b t c)
  | ⟨11, _⟩ => exact (cat_left _ _ _ b t ⟨352 + c.val, by omega⟩ _ (by show 32 * 11 + c.val = 352 + c.val; omega)).trans (emb11 h01 b t c)
  | ⟨12, _⟩ => exact (cat_left _ _ _ b t ⟨384 + c.val, by omega⟩ _ (by show 32 * 12 + c.val = 384 + c.val; omega)).trans (emb12 h01 b t c)
  | ⟨13, _⟩ => exact (cat_left _ _ _ b t ⟨416 + c.val, by omega⟩ _ (by show 32 * 13 + c.val = 416 + c.val; omega)).trans (emb13 h01 b t c)
  | ⟨14, _⟩ => exact (cat_left _ _ _ b t ⟨448 + c.val, by omega⟩ _ (by show 32 * 14 + c.val = 448 + c.val; omega)).trans (emb14 h01 b t c)
  | ⟨15, _⟩ => exact (cat_left _ _ _ b t ⟨480 + c.val, by omega⟩ _ (by show 32 * 15 + c.val = 480 + c.val; omega)).trans (emb15 h01 b t c)
  | ⟨16, _⟩ => exact (cat_right _ _ _ b t ⟨0 + c.val, by omega⟩ _ (by show 32 * 16 + c.val = 512 + (0 + c.val); omega)).trans (emb16 h01 b t c)
  | ⟨17, _⟩ => exact (cat_right _ _ _ b t ⟨32 + c.val, by omega⟩ _ (by show 32 * 17 + c.val = 512 + (32 + c.val); omega)).trans (emb17 h01 b t c)
  | ⟨18, _⟩ => exact (cat_right _ _ _ b t ⟨64 + c.val, by omega⟩ _ (by show 32 * 18 + c.val = 512 + (64 + c.val); omega)).trans (emb18 h01 b t c)
  | ⟨19, _⟩ => exact (cat_right _ _ _ b t ⟨96 + c.val, by omega⟩ _ (by show 32 * 19 + c.val = 512 + (96 + c.val); omega)).trans (emb19 h01 b t c)
  | ⟨20, _⟩ => exact (cat_right _ _ _ b t ⟨128 + c.val, by omega⟩ _ (by show 32 * 20 + c.val = 512 + (128 + c.val); omega)).trans (emb20 h01 b t c)
  | ⟨21, _⟩ => exact (cat_right _ _ _ b t ⟨160 + c.val, by omega⟩ _ (by show 32 * 21 + c.val = 512 + (160 + c.val); omega)).trans (emb21 h01 b t c)
  | ⟨22, _⟩ => exact (cat_right _ _ _ b t ⟨192 + c.val, by omega⟩ _ (by show 32 * 22 + c.val = 512 + (192 + c.val); omega)).trans (emb22 h01 b t c)
  | ⟨23, _⟩ => exact (cat_right _ _ _ b t ⟨224 + c.val, by omega⟩ _ (by show 32 * 23 + c.val = 512 + (224 + c.val); omega)).trans (emb23 h01 b t c)
  | ⟨24, _⟩ => exact (cat_right _ _ _ b t ⟨256 + c.val, by omega⟩ _ (by show 32 * 24 + c.val = 512 + (256 + c.val); omega)).trans (emb24 h01 b t c)
  | ⟨25, _⟩ => exact (cat_right _ _ _ b t ⟨288 + c.val, by omega⟩ _ (by show 32 * 25 + c.val = 512 + (288 + c.val); omega)).trans (emb25 h01 b t c)
  | ⟨n + 26, h⟩ => exact absurd h (by omega)

/-! ## The numbers -/

/-- The first layer on the numbers, at an index. -/
theorem hid_apply (b : Fin 1024) (t : Fin 50) (j : Fin 13) :
    (res_main_v139 V : FVec Ideal S1024x50x13 .f32) (ix3 b t j)
      = hid (rowX V b t) (fun i j => (V (Proc.devRef .tc main_arg3) : FVec Ideal S13x13 .f32) (ix2 i j))
          (fun j => (V (Proc.devRef .tc main_arg4) : FVec Ideal S13 .f32) (ix1 j)) j := by
  unfold res_main_v139 hid
  refine congrArg₂ (· + ·) ((dot3_apply dot_S1024x50x13_S13x13_S1024x50x13_2_0_01_1_n_n_wf _ _ b t j).trans
    (Finset.sum_congr rfl fun i _ => congrArg (· * _) ?_)) (bias_apply (by omega) _ _ _ b t j)
  refine extractStridedSlice_apply _ (aX V) _ (ix3 b t i) (ix3 b t (num i)) fun a => ?_
  match a with
  | ⟨0, _⟩ => exact (Nat.zero_add _).symm
  | ⟨1, _⟩ => exact (Nat.zero_add _).symm
  | ⟨2, _⟩ => rfl

/-- A number times its logistic, at an index. -/
theorem act_apply (y : FVec Ideal S1024x50x13 .f32) (h₁ h₂ : S_.BroadcastsInDim S1024x50x13 ![]) (i : S1024x50x13.Idx) :
    mulf y (Host.divf (broadcastInDim S1024x50x13 ![] h₁ (constant (F := Ideal) S_ .f32 0x3F800000#32))
      (addf (broadcastInDim S1024x50x13 ![] h₂ (constant (F := Ideal) S_ .f32 0x3F800000#32)) (Host.exp (Host.negf y)))) i = act (y i) := by
  show y i * Ideal.div (Scalar.ofBits .f32 0x3F800000#32 : Ideal .f32) ((Scalar.ofBits .f32 0x3F800000#32 : Ideal .f32) + Ideal.exp (-(y i))) = act (y i)
  have e : (Scalar.ofBits .f32 0x3F800000#32 : Ideal .f32) = (1 : EReal) := Ideal.ofBits_one_f32
  rw [e]
  rfl

/-- The numbers' embedding, at an index. -/
theorem num_apply (b : Fin 1024) (t : Fin 50) (l : Fin 13) (y : FVec Ideal S1024x50x13 .f32) (W : FVec Ideal S13x13 .f32) (v : FVec Ideal S13 .f32)
    (h₁ h₂ : S_.BroadcastsInDim S1024x50x13 ![]) :
    addf (Host.dotGeneral dot_S1024x50x13_S13x13_S1024x50x13_2_0_01_1_n_n none
      (mulf y (Host.divf (broadcastInDim S1024x50x13 ![] h₁ (constant (F := Ideal) S_ .f32 0x3F800000#32))
        (addf (broadcastInDim S1024x50x13 ![] h₂ (constant (F := Ideal) S_ .f32 0x3F800000#32)) (Host.exp (Host.negf y))))) W)
      (broadcastInDim S1024x50x13 ![0, 1, 2] bcast_S1x1x13_S1024x50x13_0_1_2 (broadcastInDim S1x1x13 ![2] bcast_S13_S1x1x13_2 v)) (ix3 b t l)
      = ∑ j, act (y (ix3 b t j)) * W (ix2 j l) + v (ix1 l) :=
  congrArg₂ (· + ·) ((dot3_apply dot_S1024x50x13_S13x13_S1024x50x13_2_0_01_1_n_n_wf _ _ b t l).trans
    (Finset.sum_congr rfl fun j _ => congrArg (· * _) (act_apply y h₁ h₂ (ix3 b t j)))) (bias_apply (by omega) _ _ _ b t l)

/-! ## The row -/

/-- The hidden layer before the maximum with zero, over embeddings `p` and numbers `q`, at an index. -/
theorem head_apply (p : FVec Ideal S1024x50x832 .f32) (q : FVec Ideal S1024x50x13 .f32) (W : FVec Ideal S845x32 .f32) (v : FVec Ideal S32 .f32)
    (b : Fin 1024) (t : Fin 50) (e : Fin 32) :
    addf (Host.dotGeneral dot_S1024x50x845_S845x32_S1024x50x32_2_0_01_1_n_n none
      (concatenate S1024x50x845 2 [⟨S1024x50x832, p⟩, ⟨S1024x50x13, q⟩] concatenates_S1024x50x832_S1024x50x13_S1024x50x845_d2) W)
      (broadcastInDim S1024x50x32 ![0, 1, 2] bcast_S1x1x32_S1024x50x32_0_1_2 (broadcastInDim S1x1x32 ![2] bcast_S32_S1x1x32_2 v)) (ix3 b t e)
      = (∑ k : Fin 26, ∑ c : Fin 32, p (ix3 b t (⟨32 * k.val + c.val, by omega⟩ : Fin 832)) * W (ix2 (wE k c) e)
          + ∑ l : Fin 13, q (ix3 b t l) * W (ix2 (wN l) e)) + v (ix1 e) :=
  congrArg₂ (· + ·) ((dot3_apply dot_S1024x50x845_S845x32_S1024x50x32_2_0_01_1_n_n_wf _ _ b t e).trans ((sum845 _).trans
    (congrArg₂ (· + ·)
      (Finset.sum_congr rfl fun k _ => Finset.sum_congr rfl fun c _ => congrArg (· * _) (cat_left p q _ b t ⟨32 * k.val + c.val, by omega⟩ (wE k c) rfl))
      (Finset.sum_congr rfl fun l _ => congrArg (· * _) (cat_right p q _ b t l (wN l) rfl))))) (bias_apply (by omega) _ _ _ b t e)

/-- The output over a hidden layer `y`, at an index. -/
theorem out_apply (y : FVec Ideal S1024x50x32 .f32) (W : FVec Ideal S32x32 .f32) (v : FVec Ideal S32 .f32) (h : S_.BroadcastsInDim S1024x50x32 ![])
    (b : Fin 1024) (t : Fin 50) (e : Fin 32) :
    addf (Host.dotGeneral dot_S1024x50x32_S32x32_S1024x50x32_2_0_01_1_n_n none
      (maximumf y (broadcastInDim S1024x50x32 ![] h (constant (F := Ideal) S_ .f32 0x00000000#32))) W)
      (broadcastInDim S1024x50x32 ![0, 1, 2] bcast_S1x1x32_S1024x50x32_0_1_2 (broadcastInDim S1x1x32 ![2] bcast_S32_S1x1x32_2 v)) (ix3 b t e)
      = rowOut (fun k => y (ix3 b t k)) (fun k e => W (ix2 k e)) (fun e => v (ix1 e)) e := by
  have z : (Scalar.ofBits .f32 0x00000000#32 : Ideal .f32) = (0 : EReal) := Ideal.ofBits_zero_f32
  exact congrArg₂ (· + ·) ((dot3_apply dot_S1024x50x32_S32x32_S1024x50x32_2_0_01_1_n_n_wf _ _ b t e).trans
    (Finset.sum_congr rfl fun k _ => congrArg (fun u : EReal => max (y (ix3 b t k)) u * W (ix2 k e)) z)) (bias_apply (by omega) _ _ _ b t e)

variable (V)

/-- The reference's output row: `refHead` of the row by the looked-up embeddings, then the last layer. -/
def refRow (b : Fin 1024) (t : Fin 50) (e : Fin 32) : EReal :=
  rowOut (refHead (rowX V b t) (rows2 (aBins V) (aCats V))
      (fun i j => (V (Proc.devRef .tc main_arg3) : FVec Ideal S13x13 .f32) (ix2 i j)) (fun j l => (V (Proc.devRef .tc main_arg5) : FVec Ideal S13x13 .f32) (ix2 j l))
      (fun j => (V (Proc.devRef .tc main_arg4) : FVec Ideal S13 .f32) (ix1 j)) (fun l => (V (Proc.devRef .tc main_arg6) : FVec Ideal S13 .f32) (ix1 l))
      (fun n e => (V (Proc.devRef .tc main_arg7) : FVec Ideal S845x32 .f32) (ix2 n e)) (fun e => (V (Proc.devRef .tc main_arg8) : FVec Ideal S32 .f32) (ix1 e)))
    (fun k e => (V (Proc.devRef .tc main_arg9) : FVec Ideal S32x32 .f32) (ix2 k e)) (fun e => (V (Proc.devRef .tc main_arg10) : FVec Ideal S32 .f32) (ix1 e)) e

/-- The hidden layer of the reference's row. -/
theorem refHead_apply (h01 : Binary V) (b : Fin 1024) (t : Fin 50) (q : FVec Ideal S1024x50x13 .f32) (W1n W2n : FVec Ideal S13x13 .f32)
    (b1n b2n : FVec Ideal S13 .f32) (W : FVec Ideal S845x32 .f32) (v : FVec Ideal S32 .f32)
    (hq : ∀ l, q (ix3 b t l) = ∑ j, act (hid (rowX V b t) (fun i j => W1n (ix2 i j)) (fun j => b1n (ix1 j)) j) * W2n (ix2 j l) + b2n (ix1 l)) (e : Fin 32) :
    addf (Host.dotGeneral dot_S1024x50x845_S845x32_S1024x50x32_2_0_01_1_n_n none
      (concatenate S1024x50x845 2 [⟨S1024x50x832, concatenate S1024x50x832 2 [⟨S1024x50x512, (res_main_v133 V : FVec Ideal S1024x50x512 .f32)⟩,
        ⟨S1024x50x320, (res_main_v134 V : FVec Ideal S1024x50x320 .f32)⟩] concatenates_S1024x50x512_S1024x50x320_S1024x50x832_d2⟩, ⟨S1024x50x13, q⟩]
        concatenates_S1024x50x832_S1024x50x13_S1024x50x845_d2) W)
      (broadcastInDim S1024x50x32 ![0, 1, 2] bcast_S1x1x32_S1024x50x32_0_1_2 (broadcastInDim S1x1x32 ![2] bcast_S32_S1x1x32_2 v)) (ix3 b t e)
      = refHead (rowX V b t) (rows2 (aBins V) (aCats V)) (fun i j => W1n (ix2 i j)) (fun j l => W2n (ix2 j l)) (fun j => b1n (ix1 j)) (fun l => b2n (ix1 l))
          (fun n e => W (ix2 n e)) (fun e => v (ix1 e)) e := by
  refine (head_apply _ q W v b t e).trans ?_
  unfold refHead
  exact congrArg (· + v (ix1 e)) (congrArg₂ (· + ·)
    (Finset.sum_congr rfl fun k _ => Finset.sum_congr rfl fun c _ => congrArg (· * _) (emb_apply h01 b t k c))
    (Finset.sum_congr rfl fun l _ => congrArg (· * _) (hq l)))

variable (m : (ℓ : Loc nD τ sig) → Buf (Elt Ideal) ℓ) (ρ : Dev nD → PrngReg)

/-- Every run of the reference ends with its output array holding `refRow` at every index, and the arguments as they were. -/
theorem ref_run (h01 : ∀ c : Dev nD, Binary (launchContents m c)) :
    θ_run defs (onTc (τ := τ) (main (F := Ideal))) ⟨m, fun _ => 0, ρ⟩ fun r => ∀ c : Dev nD,
      (∀ b t e, (r.2.mem ((c.tc : Thread nD τ).loc main_v161) : FVec Ideal S1024x50x32 .f32) (ix3 b t e) = refRow (launchContents m c) b t e)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨fun b t e => by
    rw [(h c).1]
    refine (out_apply _ _ _ _ b t e).trans ?_
    unfold refRow
    exact congrArg (fun y => rowOut y _ _ e) (funext fun k => refHead_apply (launchContents m c) (h01 c) b t _ _ _ _ _ _ _
      (fun l => (num_apply b t l _ _ _ _ _).trans (congrArg (· + _)
        (Finset.sum_congr rfl fun j _ => congrArg (fun u => act u * _) (hid_apply b t j)))) k), (h c).2⟩) (run m ρ)

end Cert.ReferenceIdeal.Read
-- ==== Proof.PreRead.lean ====
/- What the precondition says of the arguments: every category is 0 or 1, and the named arrays are finite. -/
module

public import proofs.«01_k».proof.Proof.Gen.Pre_binary_and_finite
public import proofs.«01_k».proof.Proof.Head
public import Idealize.ShloMosaic.Lib.Pipeline.Value
public import Idealize.ShloMosaic.Lib.ReduceAll
public import Idealize.ShloMosaic.Lib.IdealHost

@[expose] public section

noncomputable section

namespace Cert.Pre_binary_and_finite

open Cert.Pre_binary_and_finite.Gen Idealize.ShloMosaic Idealize.ShloMosaic.ValueIdx Cert.Head

instance : Subsingleton S_.Idx := ⟨fun a b => funext fun i => i.elim0⟩

/-- The `and` of two bits is 1 exactly when both are. -/
theorem andi_one (a b : BitVec 1) : IntOp.andi a b = 1#1 ↔ a = 1#1 ∧ b = 1#1 := by revert a b; decide

/-- The `or` of two bits is 1 exactly when one is. -/
theorem ori_one (a b : BitVec 1) : IntOp.ori a b = 1#1 ↔ a = 1#1 ∨ b = 1#1 := by revert a b; decide

/-- A number whose absolute value is below infinity is a real. -/
theorem real_of_abs (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x with
  | bot => exact absurd h (by simp [Ideal.cmp])
  | top => exact absurd h (by simp [Ideal.cmp])
  | coe r => exact ⟨r, rfl⟩

/-- Two numbers the comparison calls equal are equal. -/
theorem eq_of_cmp (x y : EReal) (h : Ideal.cmp .oeq x y = 1#1) : x = y := by
  by_contra n
  exact absurd h (by simp [Ideal.cmp, n])

/-- An array all of whose absolute values compare below infinity is finite at every index. -/
theorem real_of_all {s : Shape} {axes : List (Fin s.rank)} (x : FVec Ideal s .f32) (hb : S_.BroadcastsInDim s ![]) (hr : s.ReducesTo axes S_)
    (hu : 0 < S_.numel) (init : IVec S_ 1) (j : S_.Idx)
    (h : Host.reduce IntOp.andi (cmpf .olt (Host.absf x) (broadcastInDim s ![] hb (constant (F := Ideal) S_ .f32 0x7F800000#32))) init hr hu j = 1#1)
    (i : s.Idx) : ∃ r : ℝ, x i = r :=
  real_of_abs (x i) (Host.reduce_andi_all _ init hr hu j h i)

/-- The precondition read: every category 0 or 1; the numbers, row 0 of every embedding table and the weights finite. -/
theorem pre_read (a0 : FVec Ideal S1024x50x39 .f32) (a1 : FVec Ideal S10x2x32 .f32) (a2 : FVec Ideal S16x1000x32 .f32) (a3 : FVec Ideal S13x13 .f32)
    (a4 : FVec Ideal S13 .f32) (a5 : FVec Ideal S13x13 .f32) (a6 : FVec Ideal S13 .f32) (a7 : FVec Ideal S845x32 .f32) (a8 : FVec Ideal S32 .f32)
    (a9 : FVec Ideal S32x32 .f32) (a10 : FVec Ideal S32 .f32) (h : fn a0 a1 a2 a3 a4 a5 a6 a7 a8 a9 a10 = fun _ => 1#1) :
    (∀ b t k, a0 (ix3 b t (disc k)) = 0 ∨ a0 (ix3 b t (disc k)) = 1) ∧ (∀ b t i, ∃ r : ℝ, a0 (ix3 b t (num i)) = r)
      ∧ (∀ k c, ∃ r : ℝ, rows2 a1 a2 0 k c = r) ∧ (∀ i, ∃ r : ℝ, a3 i = r) ∧ (∀ i, ∃ r : ℝ, a4 i = r) ∧ (∀ i, ∃ r : ℝ, a5 i = r)
      ∧ (∀ i, ∃ r : ℝ, a7 i = r) := by
  have e := congrFun h fun i => i.elim0
  simp only [fn, fn_part1, fn_part2, andi, andi_one] at e
  obtain ⟨⟨⟨⟨⟨⟨⟨e01, f0⟩, f1⟩, f2⟩, f3⟩, f4⟩, f5⟩, f7⟩ := e
  refine ⟨fun b t k => ?_, fun b t i => ?_, fun k c => ?_, real_of_all a3 _ _ _ _ _ f3, real_of_all a4 _ _ _ _ _ f4, real_of_all a5 _ _ _ _ _ f5,
    real_of_all a7 _ _ _ _ _ f7⟩
  · have e := Host.reduce_andi_all _ _ _ _ _ e01 (ix3 b t k)
    have hs : extractStridedSlice S1024x50x26 ![0, 0, 0] a0 slices_S1024x50x39_S1024x50x26_0_0_0 (ix3 b t k) = a0 (ix3 b t (disc k)) := by
      refine extractStridedSlice_apply _ a0 _ (ix3 b t k) (ix3 b t (disc k)) fun a => ?_
      match a with
      | ⟨0, _⟩ => exact (Nat.zero_add _).symm
      | ⟨1, _⟩ => exact (Nat.zero_add _).symm
      | ⟨2, _⟩ => exact (Nat.zero_add _).symm
    rw [← hs]
    exact ((ori_one _ _).1 e).imp (fun u => (eq_of_cmp _ _ u).trans Ideal.ofBits_zero_f32) (fun u => (eq_of_cmp _ _ u).trans Ideal.ofBits_one_f32)
  · obtain ⟨r, hr⟩ := real_of_all _ _ _ _ _ _ f0 (ix3 b t i)
    refine ⟨r, Eq.trans (Eq.symm ?_) hr⟩
    refine extractStridedSlice_apply _ a0 _ (ix3 b t i) (ix3 b t (num i)) fun a => ?_
    match a with
    | ⟨0, _⟩ => exact (Nat.zero_add _).symm
    | ⟨1, _⟩ => exact (Nat.zero_add _).symm
    | ⟨2, _⟩ => rfl
  · unfold rows2
    split
    · obtain ⟨r, hr⟩ := real_of_all _ _ _ _ _ _ f1 (ix3 (⟨k.val, by omega⟩ : Fin 10) 0 c)
      refine ⟨r, Eq.trans (Eq.symm ?_) hr⟩
      refine extractStridedSlice_apply _ a1 _ (ix3 (⟨k.val, by omega⟩ : Fin 10) 0 c) (ix3 ⟨k.val, by omega⟩ ⟨0, by omega⟩ c) fun x => ?_
      match x with
      | ⟨0, _⟩ => exact (Nat.zero_add _).symm
      | ⟨1, _⟩ => rfl
      | ⟨2, _⟩ => exact (Nat.zero_add _).symm
    · obtain ⟨r, hr⟩ := real_of_all _ _ _ _ _ _ f2 (ix3 (⟨k.val - 10, by omega⟩ : Fin 16) 0 c)
      refine ⟨r, Eq.trans (Eq.symm ?_) hr⟩
      refine extractStridedSlice_apply _ a2 _ (ix3 (⟨k.val - 10, by omega⟩ : Fin 16) 0 c) (ix3 ⟨k.val - 10, by omega⟩ ⟨0, by omega⟩ c) fun x => ?_
      match x with
      | ⟨0, _⟩ => exact (Nat.zero_add _).symm
      | ⟨1, _⟩ => rfl
      | ⟨2, _⟩ => exact (Nat.zero_add _).symm

end Cert.Pre_binary_and_finite
-- ==== Proof.Same.lean ====
/- The two programs' output rows are one function of the arguments, under the precondition. -/
module

public import proofs.«01_k».proof.Defs
public import proofs.«01_k».proof.Proof.ValueRun
public import proofs.«01_k».proof.Proof.RRead
public import proofs.«01_k».proof.Proof.PreRead

@[expose] public section

noncomputable section

namespace Cert.Same

open Idealize.ShloMosaic Idealize.ShloMosaic.TcCoe Idealize.ShloMosaic.ValueIdx Idealize.SL.Sem Cert.Head

/-- The output's entry `(b, t, e)` by the arguments: the looked-up embeddings and the numbers' two layers, through the output's two layers. -/
def rowRef (a0 : FVec Ideal ⟨3, ![1024, 50, 39]⟩ .f32) (a1 : FVec Ideal ⟨3, ![10, 2, 32]⟩ .f32) (a2 : FVec Ideal ⟨3, ![16, 1000, 32]⟩ .f32) (a3 : FVec Ideal ⟨2, ![13, 13]⟩ .f32) (a4 : FVec Ideal ⟨1, ![13]⟩ .f32) (a5 : FVec Ideal ⟨2, ![13, 13]⟩ .f32) (a6 : FVec Ideal ⟨1, ![13]⟩ .f32) (a7 : FVec Ideal ⟨2, ![845, 32]⟩ .f32) (a8 : FVec Ideal ⟨1, ![32]⟩ .f32) (a9 : FVec Ideal ⟨2, ![32, 32]⟩ .f32) (a10 : FVec Ideal ⟨1, ![32]⟩ .f32)
    (b : Fin 1024) (t : Fin 50) (e : Fin 32) : EReal :=
  rowOut (refHead (fun n => a0 (ix3 b t n)) (rows2 a1 a2) (fun i j => a3 (ix2 i j)) (fun j l => a5 (ix2 j l)) (fun j => a4 (ix1 j)) (fun l => a6 (ix1 l))
    (fun n e => a7 (ix2 n e)) (fun e => a8 (ix1 e))) (fun k e => a9 (ix2 k e)) (fun e => a10 (ix1 e)) e

/-- An index of the output is its three coordinates. -/
theorem eta3 (y : (⟨3, ![1024, 50, 32]⟩ : Shape).Idx) : y = ix3 (y 0) (y 1) (y 2) := by
  funext a
  match a with
  | ⟨0, _⟩ => rfl
  | ⟨1, _⟩ => rfl
  | ⟨2, _⟩ => rfl

/-- The kernel's row under the precondition. -/
theorem kerRow_eq (m : (ℓ : Loc Cert.KernelIdeal.nD Cert.KernelIdeal.τ Cert.KernelIdeal.sig) → Buf (Elt Ideal) ℓ)
    (hp : Cert.Pre_KernelIdeal_binary_and_finite m) (c : Dev Cert.KernelIdeal.nD) (b : Fin 1024) (t : Fin 50) (e : Fin 32) :
    Cert.KernelIdeal.kerRow m c b t e = rowRef (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) b t e := by
  obtain ⟨h01, f0, fE, f3, f4, f5, f7⟩ := Cert.Pre_binary_and_finite.pre_read _ _ _ _ _ _ _ _ _ _ _ (hp c)
  unfold Cert.KernelIdeal.kerRow rowRef
  exact congrArg (fun h => rowOut h _ _ e) (funext fun n => head_eq _ _ _ _ _ _ _ _ _ _ _ (Cert.KernelIdeal.combined_run m c) (fun k => h01 b t k)
    (fun i => f0 b t i) fE (fun i j => f3 _) (fun i j => f5 _) (fun j => f4 _) (fun i j => f7 _) n)

/-- The reference's row. -/
theorem refRow_eq (m' : (ℓ : Loc Cert.ReferenceIdeal.nD Cert.ReferenceIdeal.τ Cert.ReferenceIdeal.sig) → Buf (Elt Ideal) ℓ)
    (c : Dev Cert.ReferenceIdeal.nD) (b : Fin 1024) (t : Fin 50) (e : Fin 32) :
    Cert.ReferenceIdeal.Read.refRow (StableHlo.launchContents m' c) b t e = rowRef (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10)) b t e := rfl

/-- From arguments that agree and meet the precondition, the kernel and the reference end with the same output array. -/
theorem algebraic : Cert.algebraic_KernelIdeal_ReferenceIdeal_pre_binary_and_finite (hKernelIdeal := Cert.KernelIdeal.Gen.facts)
    (hReferenceIdeal := Cert.ReferenceIdeal.Gen.facts) (hPre_binary_and_finite := Cert.Pre_binary_and_finite.Gen.facts) := by
  intro m g m' g' hp ha
  have hr : ∀ c b t e, Cert.ReferenceIdeal.Read.refRow (StableHlo.launchContents m' c) b t e = Cert.KernelIdeal.kerRow m c b t e := fun c b t e => by
    obtain ⟨h0, h1, h2, h3, h4, h5, h6, h7, h8, h9, h10⟩ := ha c
    rw [refRow_eq, kerRow_eq m hp c b t e, h0, h1, h2, h3, h4, h5, h6, h7, h8, h9, h10]
  have h01 : ∀ c, Cert.ReferenceIdeal.Read.Binary (StableHlo.launchContents m' c) := fun c b t k => by
    have h := (Cert.Pre_binary_and_finite.pre_read _ _ _ _ _ _ _ _ _ _ _ (hp c)).1 b t k
    rw [← (ha c).1] at h
    exact h
  refine ⟨fun c => fun y : (⟨3, ![1024, 50, 32]⟩ : Shape).Idx => Cert.KernelIdeal.kerRow m c (y 0) (y 1) (y 2), ?_, ?_⟩
  · refine (θ_run _ _ _).mono (fun r h c => ⟨funext fun y => ?_, (h c).2⟩) (Cert.KernelIdeal.value_run m g)
    exact (congrArg (r.2.mem ((c.tc : Thread Cert.KernelIdeal.nD Cert.KernelIdeal.τ).loc Cert.KernelIdeal.main_v0)) (eta3 y)).trans ((h c).1 (y 0) (y 1) (y 2))
  · refine (θ_run _ _ _).mono (fun r h c => ⟨funext fun y => ?_, (h c).2⟩) (Cert.ReferenceIdeal.Read.ref_run m' g' h01)
    exact (congrArg (r.2.mem ((c.tc : Thread Cert.ReferenceIdeal.nD Cert.ReferenceIdeal.τ).loc Cert.ReferenceIdeal.main_v161)) (eta3 y)).trans
      (((h c).1 (y 0) (y 1) (y 2)).trans (hr c _ _ _))

end Cert.Same
-- ==== Proof.lean ====
module

public import proofs.«01_k».proof.Defs
public import proofs.«01_k».proof.Proof.KFrameRun
public import proofs.«01_k».proof.Proof.FrameRun
public import proofs.«01_k».proof.Proof.Same
public import Idealize.ShloMosaic.Lib.Quiescent

@[expose] public section

noncomputable section

namespace Cert.Proof

open Idealize.ShloMosaic Idealize.ShloMosaic.TcCoe Idealize.SL.Sem

/-- The kernel runs from every memory, its arguments unchanged. -/
theorem frame_Kernel : Cert.quiescent_Kernel (hKernel := Cert.Kernel.Gen.facts) :=
  fun m g _ => Cert.Kernel.frame_run (F := Bits) m g

/-- The idealized kernel runs from every memory, its arguments unchanged. -/
theorem frame_KernelIdeal : Cert.quiescent_KernelIdeal (hKernelIdeal := Cert.KernelIdeal.Gen.facts) :=
  fun m g _ => Cert.KernelIdeal.frame_run (F := Ideal) m g

/-- The idealized reference runs from every memory, its arguments unchanged. -/
theorem frame_ReferenceIdeal : Cert.quiescent_ReferenceIdeal (hReferenceIdeal := Cert.ReferenceIdeal.Gen.facts) :=
  fun m g _ => (θ_run _ _ _).mono (fun r h => ⟨fun c => (h c).2, sem_eq_zero_of_no_sems rfl r.2⟩)
    (Cert.ReferenceIdeal.Value.run (F := Ideal) m g)

/-- The idealized kernel runs from every memory that meets the precondition, its arguments unchanged. -/
theorem frame_KernelIdeal_pre : Cert.quiescent_KernelIdeal_pre_binary_and_finite (hKernelIdeal := Cert.KernelIdeal.Gen.facts)
    (hPre_binary_and_finite := Cert.Pre_binary_and_finite.Gen.facts) :=
  fun m g _ => frame_KernelIdeal m g trivial

/-- The idealized reference runs from every memory that meets the precondition, its arguments unchanged. -/
theorem frame_ReferenceIdeal_pre : Cert.quiescent_ReferenceIdeal_pre_binary_and_finite (hReferenceIdeal := Cert.ReferenceIdeal.Gen.facts)
    (hPre_binary_and_finite := Cert.Pre_binary_and_finite.Gen.facts) :=
  fun m g _ => frame_ReferenceIdeal m g trivial

theorem claim : Cert.Claim := ⟨Cert.Kernel.Gen.facts, Cert.KernelIdeal.Gen.facts, Cert.ReferenceIdeal.Gen.facts, Cert.Pre_binary_and_finite.Gen.facts,
  frame_Kernel, frame_KernelIdeal, frame_KernelIdeal_pre, frame_ReferenceIdeal, frame_ReferenceIdeal_pre, trivial,
  Cert.Same.algebraic⟩

end Cert.Proof

end
